-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v19) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1x256x1024 : Shape := ⟨3, ![1, 256, 1024]⟩
abbrev S1024x1024 : Shape := ⟨2, ![1024, 1024]⟩
abbrev S1x4096x32x128 : Shape := ⟨4, ![1, 4096, 32, 128]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x4096x32x128 : S_.BroadcastsInDim S1x4096x32x128 (![] : Fin 0 → Fin S1x4096x32x128.rank)
  reducesTo_S1x4096x32x128_S_d0_1_2_3 : S1x4096x32x128.ReducesTo [0, 1, 2, 3] S_

variable [Facts]

def fn {F : FTy → Type} [FloatOps F] (main_arg0 : FVec F S1x256x1024 .f32) (main_arg1 : FVec F S1024x1024 .f32) (main_arg2 : FVec F S1x4096x32x128 .f32) (main_arg3 : FVec F S1x4096x32x128 .f32) (main_arg4 : FVec F S1024x1024 .f32) : IVec S_ 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x4096x32x128 .f32 := Host.absf main_arg2
  let main_cst_2 : FVec F S_ .f32 := constant S_ .f32 0x7F800000#32
  let main_v10 : FVec F S1x4096x32x128 .f32 := broadcastInDim S1x4096x32x128 ![] bcast_S_S1x4096x32x128 main_cst_2
  let main_v11 : IVec S1x4096x32x128 1 := cmpf .olt main_v9 main_v10
  let main_c_3 : IVec S_ 1 := constantI S_ 1 1#1
  let main_v12 : IVec S_ 1 := (fun x v => Host.reduce IntOp.andi x v reducesTo_S1x4096x32x128_S_d0_1_2_3 h_S_) main_v11 main_c_3
  let main_v13 : IVec S_ 1 := andi main_v8 main_v12
  main_v13
-- ==== Pre_finite_scores_ReferenceIdeal.lean ====
abbrev S1x256x1024 : Shape := ⟨3, ![1, 256, 1024]⟩
abbrev S1024x4096 : Shape := ⟨2, ![1024, 4096]⟩
abbrev S1x4096x32x128 : Shape := ⟨4, ![1, 4096, 32, 128]⟩
abbrev S4096x1024 : Shape := ⟨2, ![4096, 1024]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S1x4096x32x128 : S_.BroadcastsInDim S1x4096x32x128 (![] : Fin 0 → Fin S1x4096x32x128.rank)
  reducesTo_S1x4096x32x128_S_d0_1_2_3 : S1x4096x32x128.ReducesTo [0, 1, 2, 3] S_

variable [Facts]

def fn {F : FTy → Type} [FloatOps F] (main_arg0 : FVec F S1x256x1024 .f32) (main_arg1 : FVec F S1024x4096 .f32) (main_arg2 : FVec F S1x4096x32x128 .f32) (main_arg3 : FVec F S1x4096x32x128 .f32) (main_arg4 : FVec F S4096x1024 .f32) : IVec S_ 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S1x4096x32x128 .f32 := Host.absf main_arg2
  let main_cst_2 : FVec F S_ .f32 := constant S_ .f32 0x7F800000#32
  let main_v10 : FVec F S1x4096x32x128 .f32 := broadcastInDim S1x4096x32x128 ![] bcast_S_S1x4096x32x128 main_cst_2
  let main_v11 : IVec S1x4096x32x128 1 := cmpf .olt main_v9 main_v10
  let main_c_3 : IVec S_ 1 := constantI S_ 1 1#1
  let main_v12 : IVec S_ 1 := (fun x v => Host.reduce IntOp.andi x v reducesTo_S1x4096x32x128_S_d0_1_2_3 h_S_) main_v11 main_c_3
  let main_v13 : IVec S_ 1 := andi main_v8 main_v12
  main_v13
-- ==== Kernel.lean ====
abbrev S1x256x1024 : Shape := ⟨3, ![1, 256, 1024]⟩
abbrev S1024x1024 : Shape := ⟨2, ![1024, 1024]⟩
abbrev S1x4096x32x128 : Shape := ⟨4, ![1, 4096, 32, 128]⟩
abbrev S256x1024 : Shape := ⟨2, ![256, 1024]⟩
abbrev S4x1024x8x128 : Shape := ⟨4, ![4, 1024, 8, 128]⟩
abbrev S2x1024x1024 : Shape := ⟨3, ![2, 1024, 1024]⟩
abbrev S4x256x1024 : Shape := ⟨3, ![4, 256, 1024]⟩
abbrev S4 : Shape := ⟨1, ![4]⟩
abbrev S_ : Shape := ⟨0, ![]⟩
abbrev S1 : Shape := ⟨1, ![1]⟩
abbrev S1x1024x8x128 : Shape := ⟨4, ![1, 1024, 8, 128]⟩
abbrev S1024x8x128 : Shape := ⟨3, ![1024, 8, 128]⟩
abbrev S1x1024x1024 : Shape := ⟨3, ![1, 1024, 1024]⟩
abbrev S256x128 : Shape := ⟨2, ![256, 128]⟩
abbrev S1x1024x128 : Shape := ⟨3, ![1, 1024, 128]⟩
abbrev S1024x128 : Shape := ⟨2, ![1024, 128]⟩
abbrev S256 : Shape := ⟨1, ![256]⟩
abbrev S256x1 : Shape := ⟨2, ![256, 1]⟩

abbrev nBuf : Space → Nat
  | .hbm => 6
  | .vmem => 8
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S1x4096x32x128, .f32⟩
  | .hbm, ⟨3, _⟩ => ⟨S1x4096x32x128, .f32⟩
  | .hbm, ⟨4, _⟩ => ⟨S1024x1024, .f32⟩
  | .hbm, ⟨5, _⟩ => ⟨S256x1024, .f32⟩
  | .local _ .vmem, ⟨0, _⟩ => ⟨S1x256x1024, .f32⟩
  | .local _ .vmem, ⟨1, _⟩ => ⟨S1024x1024, .f32⟩
  | .local _ .vmem, ⟨2, _⟩ => ⟨S1024x1024, .f32⟩
  | .local _ .vmem, ⟨3, _⟩ => ⟨S256x1024, .f32⟩
  | .local _ .vmem, ⟨4, _⟩ => ⟨S4x1024x8x128, .f32⟩
  | .local _ .vmem, ⟨5, _⟩ => ⟨S2x1024x1024, .bf16⟩
  | .local _ .vmem, ⟨6, _⟩ => ⟨S256x1024, .bf16⟩
  | .local _ .vmem, ⟨7, _⟩ => ⟨S4x256x1024, .bf16⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 1 16 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_4 : BitVec 32 := 1#32
  let v8 : BitVec 32 := Scalar.muli v4 c1_i32_4
  let v9 : BitVec 32 := Scalar.addi c0_i32 v8
  v9.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_6 : BitVec 32 := 1#32
  let v10 : BitVec 32 := Scalar.muli v6 c1_i32_6
  let v11 : BitVec 32 := Scalar.addi c0_i32_7 v10
  v11.toNat
def k0_off1 (d0 : Dev nD) : Fin 4 → Nat :=
  let c0_i32_8 : BitVec 32 := 0#32
  let c0_i32_14 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v12 : BitVec 32 := Scalar.muli v2 c8_i32
  let c0_i32_15 : BitVec 32 := 0#32
  ![0, 0, v12.toNat, 0]
def k0_off2 (d0 : Dev nD) : Fin 4 → Nat :=
  let c0_i32_24 : BitVec 32 := 0#32
  let c1024_i32 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v12 : BitVec 32 := Scalar.muli v2 c8_i32
  let c0_i32_30 : BitVec 32 := 0#32
  ![0, 1024, v12.toNat, 0]
def k0_off3 (d0 : Dev nD) : Fin 4 → Nat :=
  let c0_i32_73 : BitVec 32 := 0#32
  let c2048_i32 : BitVec 32 := 2048#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v12 : BitVec 32 := Scalar.muli v2 c8_i32
  let c0_i32_79 : BitVec 32 := 0#32
  ![0, 2048, v12.toNat, 0]
def k0_off4 (d0 : Dev nD) : Fin 4 → Nat :=
  let c0_i32_181 : BitVec 32 := 0#32
  let c3072_i32 : BitVec 32 := 3072#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v12 : BitVec 32 := Scalar.muli v2 c8_i32
  let c0_i32_187 : BitVec 32 := 0#32
  ![0, 3072, v12.toNat, 0]
def k0_dev3 (d0 : Dev nD) : Nat :=
  let c0_i32_505 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_498 : BitVec 32 := 1#32
  let v634 : BitVec 32 := Scalar.xori v2 c1_i32_498
  let c1_i32_504 : BitVec 32 := 1#32
  let v636 : BitVec 32 := Scalar.muli v634 c1_i32_504
  let v637 : BitVec 32 := Scalar.addi c0_i32_505 v636
  v637.toNat
def k0_dev4 (d0 : Dev nD) : Nat :=
  let c0_i32_540 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_499 : BitVec 32 := 2#32
  let v635 : BitVec 32 := Scalar.xori v2 c2_i32_499
  let c1_i32_539 : BitVec 32 := 1#32
  let v668 : BitVec 32 := Scalar.muli v635 c1_i32_539
  let v669 : BitVec 32 := Scalar.addi c0_i32_540 v668
  v669.toNat
abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1x256x1024 : Shape := ⟨3, ![1, 256, 1024]⟩
abbrev S1024x4096 : Shape := ⟨2, ![1024, 4096]⟩
abbrev S1x4096x32x128 : Shape := ⟨4, ![1, 4096, 32, 128]⟩
abbrev S4096x1024 : Shape := ⟨2, ![4096, 1024]⟩
abbrev S1x256x4096 : Shape := ⟨3, ![1, 256, 4096]⟩
abbrev S1x256x32x128 : Shape := ⟨4, ![1, 256, 32, 128]⟩
abbrev S1x32x256x4096 : Shape := ⟨4, ![1, 32, 256, 4096]⟩
abbrev S_ : Shape := ⟨0, ![]⟩
abbrev S1x32x256 : Shape := ⟨3, ![1, 32, 256]⟩
abbrev S1x32x256x1 : Shape := ⟨4, ![1, 32, 256, 1]⟩
abbrev S1x32x128x256 : Shape := ⟨4, ![1, 32, 128, 256]⟩
abbrev S1x256x32x1 : Shape := ⟨4, ![1, 256, 32, 1]⟩
abbrev S256x1024 : Shape := ⟨2, ![256, 1024]⟩

abbrev nBuf : Space → Nat
  | .hbm => 28
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1024x4096, .f32⟩
  | .hbm, ⟨2, _⟩ => ⟨S1x4096x32x128, .f32⟩
  | .hbm, ⟨3, _⟩ => ⟨S1x4096x32x128, .f32⟩
  | .hbm, ⟨4, _⟩ => ⟨S4096x1024, .f32⟩
  | .hbm, ⟨5, _⟩ => ⟨S1x256x4096, .f32⟩
  | .hbm, ⟨6, _⟩ => ⟨S1x256x32x128, .f32⟩
  | .hbm, ⟨7, _⟩ => ⟨S1x32x256x4096, .f32⟩
  | .hbm, ⟨8, _⟩ => ⟨S_, .f32⟩
  | .hbm, ⟨9, _⟩ => ⟨S1x32x256x4096, .f32⟩
  | .hbm, ⟨10, _⟩ => ⟨S1x32x256x4096, .f32⟩
  | .hbm, ⟨11, _⟩ => ⟨S_, .f32⟩
  | .hbm, ⟨12, _⟩ => ⟨S1x32x256, .f32⟩
  | .hbm, ⟨13, _⟩ => ⟨S1x32x256x1, .f32⟩
  | .hbm, ⟨14, _⟩ => ⟨S1x32x256x4096, .f32⟩
  | .hbm, ⟨15, _⟩ => ⟨S1x32x256x4096, .f32⟩
  | .hbm, ⟨16, _⟩ => ⟨S1x32x256x4096, .f32⟩
  | .hbm, ⟨17, _⟩ => ⟨S_, .f32⟩
  | .hbm, ⟨18, _⟩ => ⟨S1x32x256, .f32⟩
  | .hbm, ⟨19, _⟩ => ⟨S1x32x256x1, .f32⟩
  | .hbm, ⟨20, _⟩ => ⟨S1x32x128x256, .f32⟩
  | .hbm, ⟨21, _⟩ => ⟨S1x256x32x128, .f32⟩
  | .hbm, ⟨22, _⟩ => ⟨S1x256x32x1, .f32⟩
  | .hbm, ⟨23, _⟩ => ⟨S1x256x32x128, .f32⟩
  | .hbm, ⟨24, _⟩ => ⟨S1x256x32x128, .f32⟩
  | .hbm, ⟨25, _⟩ => ⟨S1x256x4096, .f32⟩
  | .hbm, ⟨26, _⟩ => ⟨S1x256x1024, .f32⟩
  | .hbm, ⟨27, _⟩ => ⟨S256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Proof.Protocol.lean ====
/-
  The four devices' exchange as a schedule of rounds.

  Device `c` talks to `p1 c` (its partner in the first exchange) and to `p2 c` (its partner in the second). The entry
  barrier is signalled by both ring neighbours, `prv c` and `nxt c`; one of the two is `p1 c`, the other `p2 (p1 c)`.
  Every cell has ONE round. A signal from device `s` to `t` hands `t` one landing slot of `s`: slot 1 when `t` is `p1 s`
  (the first exchange writes it), slot 3 otherwise. The first exchange's arrival hands the receiver, besides its slot 1
  holding the partner's partial result, slot 3 of the device it sends to in the second exchange.

  Owed units live at index `true`, at levels barrier < first arrival < second arrival; everything local (the staging
  buffers, the loads' semaphores, the departures) lives at index `false`, at level 0 — below whatever is owed.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

/-! ## The resource algebra -/

/-- The pipeline library's copy of the rounds, the exchange's, and the local transfers' counters. -/
abbrev UB : Type := URounds (GSem nD τ sig) Bool
abbrev UU : Type := UR sig nD τ × (UB × Counters)

local notation "𝕄" => MT nD τ sig Bool (Elt F) ℕ UU ℕ

abbrev EP : Emb (UR sig nD τ) (MT nD τ sig Bool (Elt F) ℕ UU ℕ) := embL
def ER : Emb UB (MT nD τ sig Bool (Elt F) ℕ UU ℕ) :=
  ((Emb.inl : Emb UB (UB × Counters)).trans (Emb.inr : Emb (UB × Counters) UU)).trans
    (uEmb (nD := nD) (sig := sig) (Ix := Bool) (Val := Elt F) (Name := ℕ) (U := UU) (Lvl := ℕ)).toEmb
omit [FloatOps F] in
instance ER_landsIn : (ER : Emb UB 𝕄).LandsIn (upEmb : UEmb _ 𝕄) := by unfold ER; infer_instance

/-! ## The devices -/

set_option backward.proofsInPublic true in
def nxt (c : Dev nD) : Dev nD := ⟨(c.val + 1) % 4, Nat.mod_lt _ (by decide)⟩
set_option backward.proofsInPublic true in
def prv (c : Dev nD) : Dev nD := ⟨(c.val + 3) % 4, Nat.mod_lt _ (by decide)⟩
/-- The partner of the first exchange, and of the second. -/
def p1 (c : Dev nD) : Dev nD := ⟨k0_dev3 c, k0_dev3_lt c⟩
def p2 (c : Dev nD) : Dev nD := ⟨k0_dev4 c, k0_dev4_lt c⟩

theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)
theorem dev3_eq (c : Dev nD) : (⟨k0_dev3 c, k0_dev3_lt c⟩ : Dev nD) = p1 c := rfl
theorem dev4_eq (c : Dev nD) : (⟨k0_dev4 c, k0_dev4_lt c⟩ : Dev nD) = p2 c := rfl

theorem prv_nxt : ∀ c : Dev nD, prv (nxt c) = c := by decide
theorem nxt_prv : ∀ c : Dev nD, nxt (prv c) = c := by decide
theorem p1_p1 : ∀ c : Dev nD, p1 (p1 c) = c := by decide +kernel
theorem p2_p2 : ∀ c : Dev nD, p2 (p2 c) = c := by decide +kernel
/-- Of `c`'s two neighbours one is its first partner, the other that partner's second partner. -/
theorem nbrs : ∀ c : Dev nD, (p1 c = prv c ∧ p1 c ≠ nxt c ∧ p1 (prv c) = c ∧ p1 (nxt c) ≠ c ∧ p2 (p1 c) = nxt c)
    ∨ (p1 c = nxt c ∧ p1 c ≠ prv c ∧ p1 (nxt c) = c ∧ p1 (prv c) ≠ c ∧ p2 (p1 c) = prv c) := by decide +kernel

def ring : Dev nD ≃ Dev nD := ⟨nxt, prv, prv_nxt, nxt_prv⟩
def sw1 : Dev nD ≃ Dev nD := ⟨p1, p1, p1_p1, p1_p1⟩
def sw2 : Dev nD ≃ Dev nD := ⟨p2, p2, p2_p2, p2_p2⟩

/-! ## The exchange's slots and cells -/

abbrev commM : Memref sig .tc .vmem S4x256x1024 .bf16 := Memref.whole cc0_scratch3
abbrev cs0 : Memref sig .tc .vmem S256x1024 .bf16 :=
  (commM.slice (Rect.unit (s := S4x256x1024) ![0, 0, 0] S1x256x1024.size inb_S4x256x1024_S1x256x1024_0_0_0) (fun _ => rfl)).squeeze S256x1024 squeezes_S1x256x1024_S256x1024
abbrev cs1 : Memref sig .tc .vmem S256x1024 .bf16 :=
  (commM.slice (Rect.unit (s := S4x256x1024) ![1, 0, 0] S1x256x1024.size inb_S4x256x1024_S1x256x1024_1_0_0) (fun _ => rfl)).squeeze S256x1024 squeezes_S1x256x1024_S256x1024
abbrev cs2 : Memref sig .tc .vmem S256x1024 .bf16 :=
  (commM.slice (Rect.unit (s := S4x256x1024) ![2, 0, 0] S1x256x1024.size inb_S4x256x1024_S1x256x1024_2_0_0) (fun _ => rfl)).squeeze S256x1024 squeezes_S1x256x1024_S256x1024
abbrev cs3 : Memref sig .tc .vmem S256x1024 .bf16 :=
  (commM.slice (Rect.unit (s := S4x256x1024) ![3, 0, 0] S1x256x1024.size inb_S4x256x1024_S1x256x1024_3_0_0) (fun _ => rfl)).squeeze S256x1024 squeezes_S1x256x1024_S256x1024

/-- The runtime's barrier semaphore of collective id 0; the departures' and the arrivals' DMA semaphores. -/
abbrev barS : Sem sig := (SemArray.scalar (sig.barrier 0 rfl) : Sems sig S_).sem
abbrev s0S : DmaSem sig := ((cc0_scratch5.slice (Rect.unit (s := S4) ![0] S1.size inb_S4_S1_0)).squeeze S_ squeezes_S1_S_ : DmaSems sig S_).sem
abbrev s2S : DmaSem sig := ((cc0_scratch5.slice (Rect.unit (s := S4) ![2] S1.size inb_S4_S1_2)).squeeze S_ squeezes_S1_S_ : DmaSems sig S_).sem
abbrev r1S : DmaSem sig := ((cc0_scratch6.slice (Rect.unit (s := S4) ![1] S1.size inb_S4_S1_1)).squeeze S_ squeezes_S1_S_ : DmaSems sig S_).sem
abbrev r3S : DmaSem sig := ((cc0_scratch6.slice (Rect.unit (s := S4) ![3] S1.size inb_S4_S1_3)).squeeze S_ squeezes_S1_S_ : DmaSems sig S_).sem

abbrev barCell (c : Dev nD) : GSem nD τ sig := ((c : Thread nD τ), .reg barS)
abbrev s0Cell (c : Dev nD) : GSem nD τ sig := ((c : Thread nD τ), .dma s0S)
abbrev s2Cell (c : Dev nD) : GSem nD τ sig := ((c : Thread nD τ), .dma s2S)
abbrev r1Cell (c : Dev nD) : GSem nD τ sig := ((c : Thread nD τ), .dma r1S)
abbrev r3Cell (c : Dev nD) : GSem nD τ sig := ((c : Thread nD τ), .dma r3S)

/-- The exchange's cells, numbered. -/
abbrev csem : Fin 5 → SemLoc sig := fun | 0 => .reg barS | 1 => .dma s0S | 2 => .dma s2S | 3 => .dma r1S | 4 => .dma r3S
abbrev kcell (ck : Dev nD × Fin 5) : GSem nD τ sig := ((ck.1 : Thread nD τ), csem ck.2)

theorem csem_inj : Function.Injective csem := by decide

/-- One block's credit. -/
abbrev N : ℕ := (cs1 : Memref sig .tc .vmem S256x1024 .bf16).view.dmaCredit
theorem N_pos : 0 < N := View.dmaCredit_pos _ (by decide)

/-! ## The schedule -/

section Sched

-- What the two exchanges carry: the first block each device sends, and the second.
variable (Xa Xb : Dev nD → S256x1024.Idx → Elt F .bf16)

/-- A slot of device `c` at some contents; and one whose elements read `X`. -/
def slotAny (M : Memref sig .tc .vmem S256x1024 .bf16) (c : Dev nD) : sProp 𝕄 :=
  iprop(∃ f, M.view.loc (c : Thread nD τ) ↦[M.view.set]{fullShare} f)
def slotIs (M : Memref sig .tc .vmem S256x1024 .bf16) (c : Dev nD) (X : S256x1024.Idx → Elt F .bf16) : sProp 𝕄 :=
  iprop(∃ f, ⌜M.view.read (Elt F) f = X⌝ ∗ M.view.loc (c : Thread nD τ) ↦[M.view.set]{fullShare} f)

omit [FloatOps F] in
instance slotAny_storable (M) (c : Dev nD) : BI.Storable (upEmb : UEmb _ 𝕄) (slotAny (F := F) M c) := by unfold slotAny; infer_instance
omit [FloatOps F] in
instance slotIs_storable (M) (c : Dev nD) (X) : BI.Storable (upEmb : UEmb _ 𝕄) (slotIs (F := F) M c X) := by unfold slotIs; infer_instance

omit [FloatOps F] in
theorem slotIs_any (M) (c : Dev nD) (X) : slotIs (F := F) M c X ⊢ slotAny M c := by
  unfold slotIs slotAny; iintro ⟨%f, -, H⟩; iexists f; iexact H

/-- What `s`'s signal hands `t`. -/
def give (s t : Dev nD) : sProp 𝕄 := if p1 s = t then slotAny cs1 s else slotAny cs3 s

omit [FloatOps F] in
instance give_storable (s t : Dev nD) : BI.Storable (upEmb : UEmb _ 𝕄) (give (F := F) s t) := by
  unfold give; split <;> infer_instance

def r1Pay (c : Dev nD) : sProp 𝕄 := iprop(slotIs cs1 c (Xa (p1 c)) ∗ slotAny cs3 (p2 c))
def r3Pay (c : Dev nD) : sProp 𝕄 := slotIs cs3 c (Xb (p2 c))

omit [FloatOps F] in
instance r1Pay_storable (c : Dev nD) : BI.Storable (upEmb : UEmb _ 𝕄) (r1Pay (F := F) Xa c) := by unfold r1Pay; infer_instance
omit [FloatOps F] in
instance r3Pay_storable (c : Dev nD) : BI.Storable (upEmb : UEmb _ 𝕄) (r3Pay (F := F) Xb c) := by unfold r3Pay; infer_instance

abbrev IsBar (g : GSem nD τ sig) : Prop := g.1.2 = .tc ∧ g.2 = .reg barS
abbrev IsXfer (g : GSem nD τ sig) : Prop := g.1.2 = .tc ∧ (g.2 = .dma s0S ∨ g.2 = .dma s2S ∨ g.2 = .dma r1S ∨ g.2 = .dma r3S)

/-- One round: a barrier cell has the duties `true` (from the next device) and `false` (from the previous one), one unit
    each; every departure and arrival the duty `false` of a block's credit. -/
def sched : Rounds.Schedule (GSem nD τ sig) Bool 𝕄 where
  duties g r := if r = 0 ∧ IsBar g then Finset.univ else if r = 0 ∧ IsXfer g then {false} else ∅
  unitless _ := False
  amount g _ _ := if g.2 = .reg barS then 1 else N
  payload g _ d :=
    if g.2 = .reg barS then (if d then give (nxt g.1.1) g.1.1 else give (prv g.1.1) g.1.1)
    else if g.2 = .dma s0S then slotAny cs0 g.1.1
    else if g.2 = .dma s2S then slotAny cs2 g.1.1
    else if g.2 = .dma r1S then r1Pay Xa g.1.1
    else if g.2 = .dma r3S then r3Pay Xb g.1.1
    else iprop(emp)
  amount_pos g _ _ _ := by
    by_cases h : g.2 = .reg barS
    · rw [if_pos h]; exact Nat.one_pos
    · rw [if_neg h]; exact N_pos

omit [FloatOps F] in
instance sched_storable (g : GSem nD τ sig) (r : ℕ) (d : Bool) :
    BI.Storable (upEmb : UEmb _ 𝕄) ((sched (F := F) Xa Xb).payload g r d) := by
  dsimp only [sched]
  (repeat' split) <;> infer_instance

variable (c : Dev nD)

theorem s0_ne_bar : (SemLoc.dma s0S : SemLoc sig) ≠ .reg barS := fun h => by cases h
theorem s2_ne_bar : (SemLoc.dma s2S : SemLoc sig) ≠ .reg barS := fun h => by cases h
theorem r1_ne_bar : (SemLoc.dma r1S : SemLoc sig) ≠ .reg barS := fun h => by cases h
theorem r3_ne_bar : (SemLoc.dma r3S : SemLoc sig) ≠ .reg barS := fun h => by cases h
theorem s2_ne_s0 : (SemLoc.dma s2S : SemLoc sig) ≠ .dma s0S := by decide
theorem r1_ne_s0 : (SemLoc.dma r1S : SemLoc sig) ≠ .dma s0S := by decide
theorem r1_ne_s2 : (SemLoc.dma r1S : SemLoc sig) ≠ .dma s2S := by decide
theorem r3_ne_s0 : (SemLoc.dma r3S : SemLoc sig) ≠ .dma s0S := by decide
theorem r3_ne_s2 : (SemLoc.dma r3S : SemLoc sig) ≠ .dma s2S := by decide
theorem r3_ne_r1 : (SemLoc.dma r3S : SemLoc sig) ≠ .dma r1S := by decide

omit [FloatOps F] in
theorem duties_bar : (sched (F := F) Xa Xb).duties (barCell c) 0 = Finset.univ := by dsimp only [sched]; exact if_pos ⟨rfl, rfl, rfl⟩
omit [FloatOps F] in
theorem duties_x {sm : SemLoc sig} (hb : sm ≠ .reg barS) (h : sm = .dma s0S ∨ sm = .dma s2S ∨ sm = .dma r1S ∨ sm = .dma r3S) :
    (sched (F := F) Xa Xb).duties ((c : Thread nD τ), sm) 0 = {false} := by
  dsimp only [sched]; rw [if_neg (fun h => hb h.2.2)]; exact if_pos ⟨rfl, rfl, h⟩
omit [FloatOps F] in
theorem duties_s0 : (sched (F := F) Xa Xb).duties (s0Cell c) 0 = {false} := duties_x Xa Xb c s0_ne_bar (.inl rfl)
omit [FloatOps F] in
theorem duties_s2 : (sched (F := F) Xa Xb).duties (s2Cell c) 0 = {false} := duties_x Xa Xb c s2_ne_bar (.inr (.inl rfl))
omit [FloatOps F] in
theorem duties_r1 : (sched (F := F) Xa Xb).duties (r1Cell c) 0 = {false} := duties_x Xa Xb c r1_ne_bar (.inr (.inr (.inl rfl)))
omit [FloatOps F] in
theorem duties_r3 : (sched (F := F) Xa Xb).duties (r3Cell c) 0 = {false} := duties_x Xa Xb c r3_ne_bar (.inr (.inr (.inr rfl)))
omit [FloatOps F] in
theorem duties_later (g : GSem nD τ sig) : ∀ r, 1 ≤ r → (sched (F := F) Xa Xb).duties g r = ∅ :=
  fun r hr => by dsimp only [sched]; rw [if_neg fun h => by omega, if_neg fun h => by omega]

omit [FloatOps F] in
theorem amount_bar (d : Bool) : (sched (F := F) Xa Xb).amount (barCell c) 0 d = 1 := by dsimp only [sched]; exact if_pos rfl
omit [FloatOps F] in
theorem amount_x {sm : SemLoc sig} (hb : sm ≠ .reg barS) (d : Bool) : (sched (F := F) Xa Xb).amount ((c : Thread nD τ), sm) 0 d = N := by
  dsimp only [sched]; exact if_neg hb

omit [FloatOps F] in
theorem expect_bar : (sched (F := F) Xa Xb).expect (barCell c) 0 = 2 := by
  unfold Schedule.expect Schedule.amountOf
  rw [duties_bar, Finset.sum_congr rfl fun d _ => amount_bar Xa Xb c d, Finset.sum_const, Finset.card_univ, Fintype.card_bool, smul_eq_mul]
omit [FloatOps F] in
theorem expect_x {sm : SemLoc sig} (hb : sm ≠ .reg barS) (h : sm = .dma s0S ∨ sm = .dma s2S ∨ sm = .dma r1S ∨ sm = .dma r3S) :
    (sched (F := F) Xa Xb).expect ((c : Thread nD τ), sm) 0 = N := by
  unfold Schedule.expect Schedule.amountOf; rw [duties_x Xa Xb c hb h, Finset.sum_singleton, amount_x Xa Xb c hb]

omit [FloatOps F] in
theorem payload_bar_true : (sched (F := F) Xa Xb).payload (barCell c) 0 true = give (nxt c) c := by dsimp only [sched]; rw [if_pos rfl, if_pos rfl]
omit [FloatOps F] in
theorem payload_bar_false : (sched (F := F) Xa Xb).payload (barCell c) 0 false = give (prv c) c := by
  dsimp only [sched]; rw [if_pos rfl]; exact if_neg Bool.false_ne_true
omit [FloatOps F] in
theorem payload_s0 (d : Bool) : (sched (F := F) Xa Xb).payload (s0Cell c) 0 d = slotAny cs0 c := by
  dsimp only [sched]; rw [if_neg s0_ne_bar, if_pos rfl]
omit [FloatOps F] in
theorem payload_s2 (d : Bool) : (sched (F := F) Xa Xb).payload (s2Cell c) 0 d = slotAny cs2 c := by
  dsimp only [sched]; rw [if_neg s2_ne_bar, if_neg s2_ne_s0, if_pos rfl]
omit [FloatOps F] in
theorem payload_r1 (d : Bool) : (sched (F := F) Xa Xb).payload (r1Cell c) 0 d = r1Pay Xa c := by
  dsimp only [sched]; rw [if_neg r1_ne_bar, if_neg r1_ne_s0, if_neg r1_ne_s2, if_pos rfl]
omit [FloatOps F] in
theorem payload_r3 (d : Bool) : (sched (F := F) Xa Xb).payload (r3Cell c) 0 d = r3Pay Xb c := by
  dsimp only [sched]; rw [if_neg r3_ne_bar, if_neg r3_ne_s0, if_neg r3_ne_s2, if_neg r3_ne_r1, if_pos rfl]

omit [FloatOps F] in
theorem rest_bar : bigSep ((sched (F := F) Xa Xb).duties (barCell c) 0 \ ∅) (fun d => (sched (F := F) Xa Xb).payload (barCell c) 0 d)
    = iprop(give (prv c) c ∗ give (nxt c) c) := by
  rw [Finset.sdiff_empty, duties_bar, bigSep_univ_eq_bigSepL [false, true] (by decide) (by decide), bigSepL_cons_cons, bigSepL_singleton,
    payload_bar_false, payload_bar_true]
  rfl
omit [FloatOps F] in
theorem rest_s0 : bigSep ((sched (F := F) Xa Xb).duties (s0Cell c) 0 \ ∅) (fun d => (sched (F := F) Xa Xb).payload (s0Cell c) 0 d) = slotAny cs0 c := by
  rw [Finset.sdiff_empty, duties_s0, bigSep_singleton, payload_s0]
omit [FloatOps F] in
theorem rest_s2 : bigSep ((sched (F := F) Xa Xb).duties (s2Cell c) 0 \ ∅) (fun d => (sched (F := F) Xa Xb).payload (s2Cell c) 0 d) = slotAny cs2 c := by
  rw [Finset.sdiff_empty, duties_s2, bigSep_singleton, payload_s2]
omit [FloatOps F] in
theorem rest_r1 : bigSep ((sched (F := F) Xa Xb).duties (r1Cell c) 0 \ ∅) (fun d => (sched (F := F) Xa Xb).payload (r1Cell c) 0 d) = r1Pay Xa c := by
  rw [Finset.sdiff_empty, duties_r1, bigSep_singleton, payload_r1]
omit [FloatOps F] in
theorem rest_r3 : bigSep ((sched (F := F) Xa Xb).duties (r3Cell c) 0 \ ∅) (fun d => (sched (F := F) Xa Xb).payload (r3Cell c) 0 d) = r3Pay Xb c := by
  rw [Finset.sdiff_empty, duties_r3, bigSep_singleton, payload_r3]

omit [FloatOps F] in
/-- A device's two landing slots are what its two signals hand over; -/
theorem give_split : iprop(slotAny cs1 c ∗ slotAny cs3 c) ⊢ (iprop(give c (prv c) ∗ give c (nxt c)) : sProp 𝕄) := by
  unfold give
  rcases nbrs c with ⟨h1, h2, _⟩ | ⟨h1, h2, _⟩
  · rw [if_pos h1, if_neg h2]
  · rw [if_pos h1, if_neg h2]; iintro ⟨H1, H2⟩; isplitl [H2] <;> iassumption
omit [FloatOps F] in
/-- and what its neighbours' two signals hand it is its first partner's slot 1 and slot 3 of that partner's second partner. -/
theorem give_join : iprop(give (prv c) c ∗ give (nxt c) c) ⊢ (iprop(slotAny cs1 (p1 c) ∗ slotAny cs3 (p2 (p1 c))) : sProp 𝕄) := by
  unfold give
  rcases nbrs c with ⟨h1, _, h2, h3, h4⟩ | ⟨h1, _, h2, h3, h4⟩
  · rw [if_pos h2, if_neg h3, h4, h1]
  · rw [if_pos h2, if_neg h3, h4, h1]; iintro ⟨H1, H2⟩; isplitl [H2] <;> iassumption

end Sched

/-! ## What each core owes at launch; the levels -/

/-- Device `c` owes its partners a block each and both neighbours' barriers a unit each. -/
def O₂ (c : Dev nD) : CellTallies nD τ sig Bool := tallyAt (r3Cell (p2 c)) true N + tallyAt (r1Cell (p1 c)) true N
def O₁ (c : Dev nD) : CellTallies nD τ sig Bool := O₂ c + tallyAt (barCell (nxt c)) true 1
def O₀ (c : Dev nD) : CellTallies nD τ sig Bool := O₁ c + tallyAt (barCell (prv c)) true 1

def L (g : GSem nD τ sig) : Finset Bool := if g.1.2 = .tc then Finset.univ else ∅
/-- Index `false` is at level 0; index `true` at 1 on a barrier cell, 2 on a first arrival, 3 on a second. -/
def lv (g : GSem nD τ sig) (b : Bool) : ℕ :=
  if b then (if g.2 = .reg barS then 1 else if g.2 = .dma r1S then 2 else 3) else 0

theorem L_of_ne (g : GSem nD τ sig) (h : g.1.2 ≠ .tc) : L g = ∅ := if_neg h
theorem L_tc (c : Dev nD) (sm : SemLoc sig) : L ((c : Thread nD τ), sm) = Finset.univ := if_pos rfl
theorem lv_true (g : GSem nD τ sig) : 0 < lv g true := by unfold lv; rw [if_pos rfl]; (repeat' split) <;> decide
theorem lv_bar (c : Dev nD) : lv (barCell c) true = 1 := by unfold lv; rw [if_pos rfl, if_pos rfl]
theorem lv_r1 (c : Dev nD) : lv (r1Cell c) true = 2 := by unfold lv; rw [if_pos rfl, if_neg r1_ne_bar, if_pos rfl]
theorem lv_r3 (c : Dev nD) : lv (r3Cell c) true = 3 := by unfold lv; rw [if_pos rfl, if_neg r3_ne_bar, if_neg r3_ne_r1]

theorem tally_pos {g g' : GSem nD τ sig} {u u' : Bool} {n : ℕ} (h : 0 < tallyAt g' u' n g u) : g = g' ∧ u = u' := by
  rw [tallyAt_apply] at h
  by_contra hn
  rw [if_neg hn] at h
  exact Nat.lt_irrefl 0 h

theorem O₂_pos {c : Dev nD} {g : GSem nD τ sig} {u : Bool} (h : 0 < O₂ c g u) :
    u = true ∧ (g = r3Cell (p2 c) ∨ g = r1Cell (p1 c)) := by
  unfold O₂ at h
  rw [Pi.add_apply, Finsupp.add_apply] at h
  rcases Nat.add_pos_iff_pos_or_pos.mp h with h | h
  · exact ⟨(tally_pos h).2, .inl (tally_pos h).1⟩
  · exact ⟨(tally_pos h).2, .inr (tally_pos h).1⟩
theorem O₀_pos {c : Dev nD} {g : GSem nD τ sig} {u : Bool} (h : 0 < O₀ c g u) : u = true ∧ g.1.2 = .tc := by
  unfold O₀ O₁ at h
  rw [Pi.add_apply, Finsupp.add_apply, Pi.add_apply, Finsupp.add_apply] at h
  rcases Nat.add_pos_iff_pos_or_pos.mp h with h | h
  · rcases Nat.add_pos_iff_pos_or_pos.mp h with h | h
    · rcases O₂_pos h with ⟨hu, rfl | rfl⟩ <;> exact ⟨hu, rfl⟩
    · exact ⟨(tally_pos h).2, by rw [(tally_pos h).1]⟩
  · exact ⟨(tally_pos h).2, by rw [(tally_pos h).1]⟩

omit [FloatOps F] in
/-- A wait at index `false` is below anything owed at index `true`. -/
theorem mayWait_local (c : Dev nD) (sm : SemLoc sig) (O : CellTallies nD τ sig Bool)
    (hO : ∀ g u, 0 < O g u → u = true ∧ g.1.2 = .tc) :
    (levAts L lv : sProp 𝕄) ⊢ MayWait (c : Thread nD τ) sm false O :=
  MayOwe.of_cut (L := L) (lev := lv) 0 (fun p hp => by rw [Finset.mem_singleton.mp hp, L_tc]; exact Finset.mem_univ _)
    (fun g u hg => by rw [show L g = Finset.univ from if_pos (hO g u hg).2]; exact Finset.mem_univ _)
    (fun p hp => by rw [Finset.mem_singleton.mp hp]; exact Nat.le_refl 0)
    (fun g u hg => by rw [(hO g u hg).1]; exact lv_true g)
omit [FloatOps F] in
theorem mayWaits_local (c : Dev nD) (O : CellTallies nD τ sig Bool) (hO : ∀ g u, 0 < O g u → u = true ∧ g.1.2 = .tc) :
    (levAts L lv : sProp 𝕄) ⊢ MayWaits (c : Thread nD τ) false O := MayWaits.intro fun sm => mayWait_local c sm O hO

theorem O₂_tc {c : Dev nD} (g : GSem nD τ sig) (u : Bool) (h : 0 < O₂ c g u) : u = true ∧ g.1.2 = .tc := by
  rcases O₂_pos h with ⟨hu, rfl | rfl⟩ <;> exact ⟨hu, rfl⟩
theorem O₃_tc {c : Dev nD} (g : GSem nD τ sig) (u : Bool) (h : 0 < tallyAt (r3Cell (p2 c)) true N g u) : u = true ∧ g.1.2 = .tc :=
  ⟨(tally_pos h).2, by rw [(tally_pos h).1]⟩

omit [FloatOps F] in
theorem mayWait_bar (c : Dev nD) : (levAts L lv : sProp 𝕄) ⊢ MayWait (c : Thread nD τ) (.reg barS) true (O₂ c) :=
  MayOwe.of_cut (L := L) (lev := lv) 1 (fun p hp => by rw [Finset.mem_singleton.mp hp, L_tc]; exact Finset.mem_univ _)
    (fun g u hg => by rw [show L g = Finset.univ from if_pos (O₂_tc g u hg).2]; exact Finset.mem_univ _)
    (fun p hp => by rw [Finset.mem_singleton.mp hp]; exact (lv_bar c).le)
    (fun g u hg => by
      rcases O₂_pos hg with ⟨rfl, rfl | rfl⟩
      · rw [lv_r3]; decide
      · rw [lv_r1]; decide)
omit [FloatOps F] in
theorem mayWait_r1 (c : Dev nD) : (levAts L lv : sProp 𝕄) ⊢ MayWait (c : Thread nD τ) (.dma r1S) true (tallyAt (r3Cell (p2 c)) true N) :=
  MayOwe.of_cut (L := L) (lev := lv) 2 (fun p hp => by rw [Finset.mem_singleton.mp hp, L_tc]; exact Finset.mem_univ _)
    (fun g u hg => by rw [show L g = Finset.univ from if_pos (O₃_tc g u hg).2]; exact Finset.mem_univ _)
    (fun p hp => by rw [Finset.mem_singleton.mp hp]; exact (lv_r1 c).le)
    (fun g u hg => by rw [(tally_pos hg).1, (tally_pos hg).2, lv_r3]; decide)

end Cert.KernelIdeal.Hand

end
-- ==== Proof.Body.lean ====
/-
  The kernel body's run on one device: the entry barrier by hand, everything up to the first exchange by symbolic
  execution, the two exchanges by hand.
-/
module

public import proofs.«01_k».proof.Proof.Protocol

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Bool (Elt F) ℕ UU ℕ

abbrev 𝒱₀ : Variants := Variants.none

/-! ## The staging ring of the loads -/

abbrev stageM : Memref sig .tc .vmem S4x1024x8x128 .f32 := Memref.whole cc0_scratch0
abbrev ss0 : Memref sig .tc .vmem S1024x8x128 .f32 :=
  (stageM.slice (Rect.unit (s := S4x1024x8x128) ![0, 0, 0, 0] S1x1024x8x128.size inb_S4x1024x8x128_S1x1024x8x128_0_0_0_0) (fun _ => rfl)).squeeze S1024x8x128 squeezes_S1x1024x8x128_S1024x8x128
abbrev ss1 : Memref sig .tc .vmem S1024x8x128 .f32 :=
  (stageM.slice (Rect.unit (s := S4x1024x8x128) ![1, 0, 0, 0] S1x1024x8x128.size inb_S4x1024x8x128_S1x1024x8x128_1_0_0_0) (fun _ => rfl)).squeeze S1024x8x128 squeezes_S1x1024x8x128_S1024x8x128
abbrev ss2 : Memref sig .tc .vmem S1024x8x128 .f32 :=
  (stageM.slice (Rect.unit (s := S4x1024x8x128) ![2, 0, 0, 0] S1x1024x8x128.size inb_S4x1024x8x128_S1x1024x8x128_2_0_0_0) (fun _ => rfl)).squeeze S1024x8x128 squeezes_S1x1024x8x128_S1024x8x128
abbrev ss3 : Memref sig .tc .vmem S1024x8x128 .f32 :=
  (stageM.slice (Rect.unit (s := S4x1024x8x128) ![3, 0, 0, 0] S1x1024x8x128.size inb_S4x1024x8x128_S1x1024x8x128_3_0_0_0) (fun _ => rfl)).squeeze S1024x8x128 squeezes_S1x1024x8x128_S1024x8x128
abbrev l0S : DmaSem sig := ((cc0_scratch4.slice (Rect.unit (s := S4) ![0] S1.size inb_S4_S1_0)).squeeze S_ squeezes_S1_S_ : DmaSems sig S_).sem
abbrev l1S : DmaSem sig := ((cc0_scratch4.slice (Rect.unit (s := S4) ![1] S1.size inb_S4_S1_1)).squeeze S_ squeezes_S1_S_ : DmaSems sig S_).sem
abbrev l2S : DmaSem sig := ((cc0_scratch4.slice (Rect.unit (s := S4) ![2] S1.size inb_S4_S1_2)).squeeze S_ squeezes_S1_S_ : DmaSems sig S_).sem
abbrev l3S : DmaSem sig := ((cc0_scratch4.slice (Rect.unit (s := S4) ![3] S1.size inb_S4_S1_3)).squeeze S_ squeezes_S1_S_ : DmaSems sig S_).sem

/-- The four blocks of device `c`'s heads in an array of keys or values. -/
abbrev hb1 (b : Memref sig .tc .hbm S1x4096x32x128 .f32) (c : Dev nD) : Memref sig .tc .hbm S1024x8x128 .f32 :=
  (b.slice (Rect.unit (s := S1x4096x32x128) (k0_off1 c) S1x1024x8x128.size (k0_off1_inb c)) (fun _ => rfl)).squeeze S1024x8x128 squeezes_S1x1024x8x128_S1024x8x128
abbrev hb2 (b : Memref sig .tc .hbm S1x4096x32x128 .f32) (c : Dev nD) : Memref sig .tc .hbm S1024x8x128 .f32 :=
  (b.slice (Rect.unit (s := S1x4096x32x128) (k0_off2 c) S1x1024x8x128.size (k0_off2_inb c)) (fun _ => rfl)).squeeze S1024x8x128 squeezes_S1x1024x8x128_S1024x8x128
abbrev hb3 (b : Memref sig .tc .hbm S1x4096x32x128 .f32) (c : Dev nD) : Memref sig .tc .hbm S1024x8x128 .f32 :=
  (b.slice (Rect.unit (s := S1x4096x32x128) (k0_off3 c) S1x1024x8x128.size (k0_off3_inb c)) (fun _ => rfl)).squeeze S1024x8x128 squeezes_S1x1024x8x128_S1024x8x128
abbrev hb4 (b : Memref sig .tc .hbm S1x4096x32x128 .f32) (c : Dev nD) : Memref sig .tc .hbm S1024x8x128 .f32 :=
  (b.slice (Rect.unit (s := S1x4096x32x128) (k0_off4 c) S1x1024x8x128.size (k0_off4_inb c)) (fun _ => rfl)).squeeze S1024x8x128 squeezes_S1x1024x8x128_S1024x8x128
abbrev kM : Memref sig .tc .hbm S1x4096x32x128 .f32 := Memref.whole main_arg2
abbrev vM : Memref sig .tc .hbm S1x4096x32x128 .f32 := Memref.whole main_arg3

abbrev xM : Memref sig .tc .vmem S1x256x1024 .f32 := Memref.whole cc0_stg0_0
abbrev qM : Memref sig .tc .vmem S1024x1024 .f32 := Memref.whole cc0_stg1_0
abbrev oM : Memref sig .tc .vmem S1024x1024 .f32 := Memref.whole cc0_stg2_0
abbrev rM : Memref sig .tc .vmem S256x1024 .f32 := Memref.whole cc0_stg3_0
abbrev bM : Memref sig .tc .vmem S2x1024x1024 .bf16 := Memref.whole cc0_scratch1
abbrev aM : Memref sig .tc .vmem S256x1024 .bf16 := Memref.whole cc0_scratch2

/-- The kernel body on the buffers the launch calls it with. -/
abbrev theBody : Prog (TpuEff nD τ sig (Elt F) Λ₀ .tc) PUnit :=
  cc0__body (Memref.whole cc0_stg0_0) (Memref.isWhole_whole _) (Memref.whole cc0_stg1_0) (Memref.isWhole_whole _) (Memref.whole cc0_stg2_0) (Memref.isWhole_whole _)
    (Memref.whole main_arg2) (Memref.isWhole_whole _) (Memref.whole main_arg3) (Memref.isWhole_whole _) (Memref.whole cc0_stg3_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) cc0_scratch4 cc0_scratch5 cc0_scratch6

section Ghost

variable (Xa Xb : Dev nD → S256x1024.Idx → Elt F .bf16) (K : Dev nD × Fin 5 → ℕ) (c : Dev nD)

/-- The cells' invariants device `c`'s body opens. -/
def invs : sProp 𝕄 :=
  iprop(cellInv ER (sched Xa Xb) (K (c, 0)) (barCell c) ∗ cellInv ER (sched Xa Xb) (K (c, 1)) (s0Cell c) ∗ cellInv ER (sched Xa Xb) (K (c, 2)) (s2Cell c)
    ∗ cellInv ER (sched Xa Xb) (K (c, 3)) (r1Cell c) ∗ cellInv ER (sched Xa Xb) (K (c, 4)) (r3Cell c)
    ∗ cellInv ER (sched Xa Xb) (K (prv c, 0)) (barCell (prv c)) ∗ cellInv ER (sched Xa Xb) (K (nxt c, 0)) (barCell (nxt c))
    ∗ cellInv ER (sched Xa Xb) (K (p1 c, 3)) (r1Cell (p1 c)) ∗ cellInv ER (sched Xa Xb) (K (p2 c, 4)) (r3Cell (p2 c)))

instance invs_persistent : BI.Persistent (invs (F := F) Xa Xb K c) := by unfold invs; infer_instance

/-- The reached-marks of the cells `c` pays. -/
def marks : sProp 𝕄 :=
  iprop(reached ER (barCell (prv c)) 0 ∗ reached ER (barCell (nxt c)) 0 ∗ reached ER (s0Cell c) 0 ∗ reached ER (s2Cell c) 0
    ∗ reached ER (r1Cell (p1 c)) 0 ∗ reached ER (r3Cell (p2 c)) 0)

instance marks_persistent : BI.Persistent (marks (F := F) c) := by unfold marks; infer_instance

/-- The exchange's ghost state device `c` starts from: invariants, marks, its positions on its own cells, and the tokens
    of the duties it pays. -/
def ghost : sProp 𝕄 :=
  iprop(invs Xa Xb K c ∗ marks c
    ∗ (atPos ER (barCell c) 0 ∅ 0 ∗ atPos ER (s0Cell c) 0 ∅ 0 ∗ atPos ER (s2Cell c) 0 ∅ 0 ∗ atPos ER (r1Cell c) 0 ∅ 0 ∗ atPos ER (r3Cell c) 0 ∅ 0)
    ∗ (dutyTok ER (barCell (prv c)) 0 true ∗ dutyTok ER (barCell (nxt c)) 0 false ∗ dutyTok ER (s0Cell c) 0 false ∗ dutyTok ER (s2Cell c) 0 false
      ∗ dutyTok ER (r1Cell (p1 c)) 0 false ∗ dutyTok ER (r3Cell (p2 c)) 0 false))

/-- The credits of `c`'s own waits. -/
def creds : sProp 𝕄 :=
  iprop(cred (tallyAt (barCell c) true 2) ∗ cred (tallyAt (r1Cell c) true N) ∗ cred (tallyAt (r3Cell c) true N))

/-- The buffers the body works on, the two rings slot by slot. -/
def bufs (gx : Buf (Elt F) ((c : Thread nD τ).loc cc0_stg0_0)) (gq : Buf (Elt F) ((c : Thread nD τ).loc cc0_stg1_0)) (go : Buf (Elt F) ((c : Thread nD τ).loc cc0_stg2_0))
    (gr : Buf (Elt F) ((c : Thread nD τ).loc cc0_stg3_0))
    (gk : Buf (Elt F) ((c : Thread nD τ).loc main_arg2)) (gv : Buf (Elt F) ((c : Thread nD τ).loc main_arg3))
    (f0 f1 f2 f3 : Buf (Elt F) ((c : Thread nD τ).loc cc0_scratch0)) (fb : Buf (Elt F) ((c : Thread nD τ).loc cc0_scratch1)) (fa : Buf (Elt F) ((c : Thread nD τ).loc cc0_scratch2))
    (e0 e2 : Buf (Elt F) ((c : Thread nD τ).loc cc0_scratch3)) : sProp 𝕄 :=
  iprop((xM.view.loc (c : Thread nD τ) ↦{fullShare} gx) ∗ (qM.view.loc (c : Thread nD τ) ↦{fullShare} gq) ∗ (oM.view.loc (c : Thread nD τ) ↦{fullShare} go)
    ∗ (rM.view.loc (c : Thread nD τ) ↦{fullShare} gr)
    ∗ ((hb1 kM c).view.loc (c : Thread nD τ) ↦[(hb1 kM c).view.set]{fullShare} gk)
    ∗ ((hb2 kM c).view.loc (c : Thread nD τ) ↦[(hb2 kM c).view.set]{fullShare} gk)
    ∗ ((hb3 kM c).view.loc (c : Thread nD τ) ↦[(hb3 kM c).view.set]{fullShare} gk)
    ∗ ((hb4 kM c).view.loc (c : Thread nD τ) ↦[(hb4 kM c).view.set]{fullShare} gk)
    ∗ ((hb1 vM c).view.loc (c : Thread nD τ) ↦[(hb1 vM c).view.set]{fullShare} gv)
    ∗ ((hb2 vM c).view.loc (c : Thread nD τ) ↦[(hb2 vM c).view.set]{fullShare} gv)
    ∗ ((hb3 vM c).view.loc (c : Thread nD τ) ↦[(hb3 vM c).view.set]{fullShare} gv)
    ∗ ((hb4 vM c).view.loc (c : Thread nD τ) ↦[(hb4 vM c).view.set]{fullShare} gv)
    ∗ (ss0.view.loc (c : Thread nD τ) ↦[ss0.view.set]{fullShare} f0) ∗ (ss1.view.loc (c : Thread nD τ) ↦[ss1.view.set]{fullShare} f1)
    ∗ (ss2.view.loc (c : Thread nD τ) ↦[ss2.view.set]{fullShare} f2) ∗ (ss3.view.loc (c : Thread nD τ) ↦[ss3.view.set]{fullShare} f3)
    ∗ (bM.view.loc (c : Thread nD τ) ↦{fullShare} fb) ∗ (aM.view.loc (c : Thread nD τ) ↦{fullShare} fa)
    ∗ (cs0.view.loc (c : Thread nD τ) ↦[cs0.view.set]{fullShare} e0) ∗ (cs2.view.loc (c : Thread nD τ) ↦[cs2.view.set]{fullShare} e2))

/-- The loads' semaphores at zero. -/
def lsems : sProp 𝕄 :=
  iprop(semVal ((c : Thread nD τ), SemLoc.dma l0S) 0 ∗ semVal ((c : Thread nD τ), SemLoc.dma l1S) 0 ∗ semVal ((c : Thread nD τ), SemLoc.dma l2S) 0
    ∗ semVal ((c : Thread nD τ), SemLoc.dma l3S) 0)

end Ghost

/-- The body's run from its first load to the first exchange. -/
def run₁ (Xa Xb : Dev nD → S256x1024.Idx → Elt F .bf16) (K : Dev nD × Fin 5 → ℕ) (c : Dev nD)
    (gx : Buf (Elt F) ((c : Thread nD τ).loc cc0_stg0_0)) (gq : Buf (Elt F) ((c : Thread nD τ).loc cc0_stg1_0)) (go : Buf (Elt F) ((c : Thread nD τ).loc cc0_stg2_0))
    (gr : Buf (Elt F) ((c : Thread nD τ).loc cc0_stg3_0))
    (gk : Buf (Elt F) ((c : Thread nD τ).loc main_arg2)) (gv : Buf (Elt F) ((c : Thread nD τ).loc main_arg3))
    (f0 f1 f2 f3 : Buf (Elt F) ((c : Thread nD τ).loc cc0_scratch0)) (fb : Buf (Elt F) ((c : Thread nD τ).loc cc0_scratch1)) (fa : Buf (Elt F) ((c : Thread nD τ).loc cc0_scratch2))
    (e0 e2 : Buf (Elt F) ((c : Thread nD τ).loc cc0_scratch3)) (W : Waits sig Bool) (R : sProp 𝕄) (Kt : PUnit → sProp 𝕄) :
    Σ' (G : Prop), G →
    iprop(ghost Xa Xb K c ∗ creds c ∗ levAts L lv ∗ bufs c gx gq go gr gk gv f0 f1 f2 f3 fb fa e0 e2 ∗ slotAny cs1 c ∗ slotAny cs3 c ∗ lsems c
        ∗ owes (c : Thread nD τ) (O₀ c) W ∗ R)
      ⊢ wp frame (wpE (defs₀ (F := F)) 𝒱₀ (c : Thread nD τ) none) Set.univ theBody Kt := by
  sl_stretch
  unfold theBody
  rw [cc0__body_eq_skeleton]; unfold cc0__body_skel
  rw [k0_part1_eq_skeleton]; unfold k0_part1_skel
  simp (config := { proj := false }) only [semSignalWord, semWaitWord, Prog.lift, Prog.bind_op, Prog.bind_ret, Prog.pure_eq_ret, wp_deviceId, dev1_eq, dev2_eq]
  unfold ghost invs marks creds bufs lsems
  iintro ⟨⟨⟨#HIb, #HI0, #HI2, #HI1, #HI3, #HIbP, #HIbN, #HIr1, #HIr3⟩, ⟨#HrP, #HrN, #Hr0, #Hr2, #Hr1, #Hr3⟩, ⟨HaB, Ha0, Ha2, Ha1, Ha3⟩, ⟨HtP, HtN, Ht0, Ht2, Ht1, Ht3⟩⟩,
    ⟨HcB, Hc1, Hc3⟩, #Hlev, ⟨Hx, Hq, Ho, Hr, Hk1, Hk2, Hk3, Hk4, Hv1, Hv2, Hv3, Hv4, Hs0, Hs1, Hs2, Hs3, Hb, Ha, He0, He2⟩, HS1, HS3, ⟨Hl0, Hl1, Hl2, Hl3⟩, HO, HR⟩
  ihave Hg := (give_split (F := F) c) $$ [HS1 HS3]
  · isplitl [HS1] <;> iassumption
  icases Hg with ⟨HgP, HgN⟩
  unfold O₀
  iapply (Rounds.wp_signal 𝒱₀ ER (sched Xa Xb) (c : Thread nD τ) none (dst := (prv c : Thread nD τ)) (κ := K (prv c, 0))
      (d := true) (by rw [duties_bar]; exact Finset.mem_univ _) ((amount_bar Xa Xb (prv c) true).trans (by decide)) true (O₁ c) rfl (W := W))
    $$ [HO HtP HgP]
  · isplitr; · iexact HIbP
    isplitl [HO]; · iexact HO
    isplitl [HtP]; · iexact HtP
    isplitl [HgP]; · rw [payload_bar_true, nxt_prv]; iexact HgP
    iexact HrP
  iintro HO
  unfold O₁
  iapply (Rounds.wp_signal 𝒱₀ ER (sched Xa Xb) (c : Thread nD τ) none (dst := (nxt c : Thread nD τ)) (κ := K (nxt c, 0))
      (d := false) (by rw [duties_bar]; exact Finset.mem_univ _) ((amount_bar Xa Xb (nxt c) false).trans (by decide)) true (O₂ c) rfl (W := W))
    $$ [HO HtN HgN]
  · isplitr; · iexact HIbN
    isplitl [HO]; · iexact HO
    isplitl [HtN]; · iexact HtN
    isplitl [HgN]; · rw [payload_bar_false, prv_nxt]; iexact HgN
    iexact HrN
  iintro HO
  iapply (Rounds.wp_wait_rest_token 𝒱₀ ER (sched Xa Xb) (c : Thread nD τ) none (κ := K (c, 0))
      (wpE_semWait_eq 𝒱₀ (c : Thread nD τ) none Set.univ) (Set.mem_univ _) true (O := O₂ c) (W := W) (R := 0) (m := 0) (T := ∅)
      (by rw [expect_bar]; decide)) $$ [HcB HO HaB]
  · isplitr; · iexact HIb
    isplitl [HcB]; · iexact HcB
    isplitl [HO]; · iexact HO
    isplitr; · iapply (mayWait_bar c); iexact Hlev
    iexact HaB
  iintro ⟨HO, HaB, -, Hpay⟩
  ihave Hp := (Entails.of_eq (rest_bar Xa Xb c)) $$ Hpay
  ihave Hp := (give_join (F := F) c) $$ Hp
  icases Hp with ⟨HS1, HS3⟩
  ihave #Hmw := (mayWaits_local (F := F) c (O₂ c) O₂_tc) $$ Hlev
  set_option sl_exec.stopBefore "k0_part21" in sl_exec_parts
  sl_seam

end Cert.KernelIdeal.Hand

end
-- ==== Proof.Exchange.lean ====
/-
  The two exchanges of the kernel body by hand, after the run of Body.lean: what each device sends, and what the body
  leaves.
-/
module

public import proofs.«01_k».proof.Proof.Body

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Bool (Elt F) ℕ UU ℕ

/-! ## What is exchanged -/

section Values

variable (c : Dev nD) (gx : Buf (Elt F) ((c : Thread nD τ).loc cc0_stg0_0)) (gq : Buf (Elt F) ((c : Thread nD τ).loc cc0_stg1_0))
    (go : Buf (Elt F) ((c : Thread nD τ).loc cc0_stg2_0)) (gk : Buf (Elt F) ((c : Thread nD τ).loc main_arg2)) (gv : Buf (Elt F) ((c : Thread nD τ).loc main_arg3))

/-- Device `c`'s own partial product. -/
def part : FVec F S256x1024 .f32 := run₁.sl.r_79 c gx gq go gk gv

end Values

/-- A sum with what arrived. -/
def plus (p : FVec F S256x1024 .f32) (X : FVec F S256x1024 .bf16) : FVec F S256x1024 .f32 := addf p (extf .f32 X bitsLt_bf16_f32)
/-- A sum as it is sent. -/
def sent (p : FVec F S256x1024 .f32) : FVec F S256x1024 .bf16 := truncf .bf16 p bitsLt_bf16_f32

theorem read_cs0 (c : Dev nD) (gx gq go gk gv e0) :
    (cs0 : Memref sig .tc .vmem S256x1024 .bf16).view.read (Elt F) (run₁.sl.He0_w1 c gx gq go gk gv e0) = sent (part c gx gq go gk gv) := by
  unfold run₁.sl.He0_w1
  have h := View.read_write_univ (v := ((commM : Memref sig .tc .vmem S4x256x1024 .bf16).access (Rect.unit (s := S4x256x1024) ![0, 0, 0] S1x256x1024.size inb_S4x256x1024_S1x256x1024_0_0_0)))
    (Val := Elt F) e0 (k0_pay128 ((oM : Memref sig .tc .vmem S1024x1024 .f32).view.readAt (Elt F) (Rect.unit (s := S1024x1024) ![0, 0] S1024x1024.size inb_S1024x1024_S1024x1024_0_0).toLoadRect go) (run₁.sl.v627 c gx gq gk gv))
  funext i
  refine (congrFun h (Shape.reshapeEquiv shapeCasts_S1x256x1024_S256x1024 i)).trans ?_
  unfold k0_pay128 sent part run₁.sl.r_79 shapeCast
  exact congrArg _ (Shape.reshapeEquiv_reshapeEquiv _ _ _ |>.trans (Shape.reshapeEquiv_self _ _))

theorem read_cs2 (e2) (X : FVec F S256x1024 .bf16) :
    (cs2 : Memref sig .tc .vmem S256x1024 .bf16).view.read (Elt F)
      (((commM : Memref sig .tc .vmem S4x256x1024 .bf16).access (Rect.unit (s := S4x256x1024) ![2, 0, 0] S1x256x1024.size inb_S4x256x1024_S1x256x1024_2_0_0)).write (Elt F) e2 (k0_pay131 X) Finset.univ)
      = X := by
  have h := View.read_write_univ (v := ((commM : Memref sig .tc .vmem S4x256x1024 .bf16).access (Rect.unit (s := S4x256x1024) ![2, 0, 0] S1x256x1024.size inb_S4x256x1024_S1x256x1024_2_0_0)))
    (Val := Elt F) e2 (k0_pay131 X)
  funext i
  refine (congrFun h (Shape.reshapeEquiv shapeCasts_S1x256x1024_S256x1024 i)).trans ?_
  unfold k0_pay131 shapeCast
  exact congrArg _ (Shape.reshapeEquiv_reshapeEquiv _ _ _ |>.trans (Shape.reshapeEquiv_self _ _))

theorem pay129_eq (p : FVec F S256x1024 .f32) (f X) (h : (cs1 : Memref sig .tc .vmem S256x1024 .bf16).view.read (Elt F) f = X) :
    k0_pay129 p ((commM : Memref sig .tc .vmem S4x256x1024 .bf16).view.readAt (Elt F) (Rect.unit (s := S4x256x1024) ![1, 0, 0] S1x256x1024.size inb_S4x256x1024_S1x256x1024_1_0_0).toLoadRect f)
      = plus p X := by
  subst h; rfl
theorem pay1_eq (p : FVec F S256x1024 .f32) (f X) (h : (cs3 : Memref sig .tc .vmem S256x1024 .bf16).view.read (Elt F) f = X) :
    k0_pay1 p ((commM : Memref sig .tc .vmem S4x256x1024 .bf16).view.readAt (Elt F) (Rect.unit (s := S4x256x1024) ![3, 0, 0] S1x256x1024.size inb_S4x256x1024_S1x256x1024_3_0_0).toLoadRect f)
      = plus p X := by
  subst h; rfl
theorem pay130_eq (p : FVec F S256x1024 .f32) (v) : k0_pay130 p v = sent (k0_pay129 p v) := rfl

theorem write_out (f w : (cc0_stg3_0 : Ref sig .tc).ty.Contents (Elt F)) :
    ((rM : Memref sig .tc .vmem S256x1024 .f32).access (Rect.unit (s := S256x1024) ![0, 0] S256x1024.size inb_S256x1024_S256x1024_0_0) : View sig .tc _ _ _).write (Elt F) f w Finset.univ = w :=
  Memref.write_access_unit_zero_univ (Elt F) cc0_stg3_0 (funext fun a => by fin_cases a <;> rfl) _ f w

/-- An access through the ring at a slot's rectangle stays in the slot. -/
theorem load_sub {s s' : Shape} {e : EltTy} (v : View sig .tc .vmem s e) (r : Rect s) (h : s'.numel = r.shape.numel) :
    v.setOn r.toLoadRect.set ⊆ ((v.slice r).reshape s' h).set := by
  rw [View.set_reshape, View.set_slice]; exact Finset.Subset.refl _
theorem store_sub {s s' : Shape} {e : EltTy} (v : View sig .tc .vmem s e) (r : Rect s) (h : s'.numel = r.shape.numel) :
    (v.slice r).setOn Finset.univ ⊆ ((v.slice r).reshape s' h).set := by
  rw [View.set_reshape, View.setOn_univ]

/-! ## The two sends -/

section Sends

variable (Xa Xb : Dev nD → S256x1024.Idx → Elt F .bf16) (K : Dev nD × Fin 5 → ℕ)

theorem wp_send₁ (c n : Dev nD) (hn : n = p1 c) {hsc : (cs1 : Memref sig (Dev.tc n : Thread nD τ).2.kind .vmem S256x1024 .bf16).view.ref.isScScratch = false}
    {hsrc : (cs0 : Memref sig .tc .vmem S256x1024 .bf16).view.WordExact} {hdst : (cs1 : Memref sig .tc .vmem S256x1024 .bf16).view.WordExact}
    {hsem : DmaTarget.Typed .vmem (.dma r1S) (.remote (Dev.tc n : Thread nD τ) (cs1 : Memref sig .tc .vmem S256x1024 .bf16) (.dma s0S) hsc)}
    {α : Type} {Q : α → sProp 𝕄} {k : PUnit → Prog (TpuEff nD τ sig (Elt F) Λ₀ .tc) α}
    (fs : Buf (Elt F) ((cs0 : Memref sig .tc .vmem S256x1024 .bf16).view.loc (c : Thread nD τ)))
    (hfs : (cs0 : Memref sig .tc .vmem S256x1024 .bf16).view.read (Elt F) fs = Xa c)
    (fn : Buf (Elt F) ((cs1 : Memref sig .tc .vmem S256x1024 .bf16).view.loc (p1 c : Thread nD τ))) (W : Waits sig Bool) :
    iprop(cellInv ER (sched Xa Xb) (K (c, 1)) (s0Cell c) ∗ cellInv ER (sched Xa Xb) (K (p1 c, 3)) (r1Cell (p1 c))
        ∗ ((cs0 : Memref sig .tc .vmem S256x1024 .bf16).view.loc (c : Thread nD τ) ↦[(cs0 : Memref sig .tc .vmem S256x1024 .bf16).view.set]{fullShare} fs)
        ∗ (((cs1 : Memref sig .tc .vmem S256x1024 .bf16).view.loc (p1 c : Thread nD τ) ↦[(cs1 : Memref sig .tc .vmem S256x1024 .bf16).view.set]{fullShare} fn) ∗ slotAny cs3 (p2 (p1 c)))
        ∗ owes (c : Thread nD τ) (O₂ c) W
        ∗ dutyTok ER (s0Cell c) 0 false ∗ reached ER (s0Cell c) 0
        ∗ dutyTok ER (r1Cell (p1 c)) 0 false ∗ reached ER (r1Cell (p1 c)) 0)
      ⊢ iprop(((cred (tallyAt (s0Cell c) false N) ∗ owes (c : Thread nD τ) (tallyAt (r3Cell (p2 c)) true N) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma cs0 (.remote (Dev.tc n : Thread nD τ) cs1 (.dma s0S) hsc) (.dma r1S) hsrc hdst hsem) k) Q) := by
  subst hn
  refine Rounds.wp_send_pointsTo_with 𝒱₀ ER (sched Xa Xb) (c : Thread nD τ) none (κ₁ := K (c, 1)) (κ₂ := K (p1 c, 3))
    (r₁ := 0) (r₂ := 0) (d₁ := false) (d₂ := false) (fd := fn) (F := slotAny cs3 (p2 (p1 c)))
    (by rw [duties_s0]; exact Finset.mem_singleton_self _) (by rw [duties_r1]; exact Finset.mem_singleton_self _)
    true false N rfl (amount_x Xa Xb c s0_ne_bar false) (amount_x Xa Xb (p1 c) r1_ne_bar false) (tallyAt (r3Cell (p2 c)) true N) rfl (W := W)
    ?_ ?_
  · rw [payload_s0]; unfold slotAny; iintro H; iexists fs; iexact H
  · rw [payload_r1]; unfold r1Pay slotIs
    iintro ⟨H, H3⟩
    isplitl [H]
    · iexists _
      isplitr
      rotate_left
      · iexact H
      · ipureintro; rw [View.read_write_univ, hfs, p1_p1]
    · iexact H3

theorem wp_send₂ (c n : Dev nD) (hn : n = p2 c) {hsc : (cs3 : Memref sig (Dev.tc n : Thread nD τ).2.kind .vmem S256x1024 .bf16).view.ref.isScScratch = false}
    {hsrc : (cs2 : Memref sig .tc .vmem S256x1024 .bf16).view.WordExact} {hdst : (cs3 : Memref sig .tc .vmem S256x1024 .bf16).view.WordExact}
    {hsem : DmaTarget.Typed .vmem (.dma r3S) (.remote (Dev.tc n : Thread nD τ) (cs3 : Memref sig .tc .vmem S256x1024 .bf16) (.dma s2S) hsc)}
    {α : Type} {Q : α → sProp 𝕄} {k : PUnit → Prog (TpuEff nD τ sig (Elt F) Λ₀ .tc) α}
    (fs : Buf (Elt F) ((cs2 : Memref sig .tc .vmem S256x1024 .bf16).view.loc (c : Thread nD τ)))
    (hfs : (cs2 : Memref sig .tc .vmem S256x1024 .bf16).view.read (Elt F) fs = Xb c)
    (fn : Buf (Elt F) ((cs3 : Memref sig .tc .vmem S256x1024 .bf16).view.loc (p2 c : Thread nD τ))) (W : Waits sig Bool) :
    iprop(cellInv ER (sched Xa Xb) (K (c, 2)) (s2Cell c) ∗ cellInv ER (sched Xa Xb) (K (p2 c, 4)) (r3Cell (p2 c))
        ∗ ((cs2 : Memref sig .tc .vmem S256x1024 .bf16).view.loc (c : Thread nD τ) ↦[(cs2 : Memref sig .tc .vmem S256x1024 .bf16).view.set]{fullShare} fs)
        ∗ ((cs3 : Memref sig .tc .vmem S256x1024 .bf16).view.loc (p2 c : Thread nD τ) ↦[(cs3 : Memref sig .tc .vmem S256x1024 .bf16).view.set]{fullShare} fn)
        ∗ owes (c : Thread nD τ) (tallyAt (r3Cell (p2 c)) true N) W
        ∗ dutyTok ER (s2Cell c) 0 false ∗ reached ER (s2Cell c) 0
        ∗ dutyTok ER (r3Cell (p2 c)) 0 false ∗ reached ER (r3Cell (p2 c)) 0)
      ⊢ iprop(((cred (tallyAt (s2Cell c) false N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma cs2 (.remote (Dev.tc n : Thread nD τ) cs3 (.dma s2S) hsc) (.dma r3S) hsrc hdst hsem) k) Q) := by
  subst hn
  refine Rounds.wp_send_pointsTo 𝒱₀ ER (sched Xa Xb) (c : Thread nD τ) none (κ₁ := K (c, 2)) (κ₂ := K (p2 c, 4))
    (r₁ := 0) (r₂ := 0) (d₁ := false) (d₂ := false) (fd := fn)
    (by rw [duties_s2]; exact Finset.mem_singleton_self _) (by rw [duties_r3]; exact Finset.mem_singleton_self _)
    true false N rfl (amount_x Xa Xb c s2_ne_bar false) (amount_x Xa Xb (p2 c) r3_ne_bar false) 0 (by rw [zero_add]) (W := W)
    ?_ ?_
  · rw [payload_s2]; unfold slotAny; iintro H; iexists fs; iexact H
  · rw [payload_r3]; unfold r3Pay slotIs
    iintro H
    iexists _
    isplitr
    rotate_left
    · iexact H
    · ipureintro; rw [View.read_write_univ, hfs, p2_p2]

end Sends

/-! ## The end of the body -/

/-- What the body leaves on device `c`, the result's staging buffer at `out`. -/
def bodyEnd (c : Dev nD) (gx : Buf (Elt F) ((c : Thread nD τ).loc cc0_stg0_0)) (gq : Buf (Elt F) ((c : Thread nD τ).loc cc0_stg1_0)) (go : Buf (Elt F) ((c : Thread nD τ).loc cc0_stg2_0))
    (gk : Buf (Elt F) ((c : Thread nD τ).loc main_arg2)) (gv : Buf (Elt F) ((c : Thread nD τ).loc main_arg3)) (out : Buf (Elt F) ((c : Thread nD τ).loc cc0_stg3_0))
    (W : Waits sig Bool) : sProp 𝕄 :=
  iprop(((xM.view.loc (c : Thread nD τ) ↦{fullShare} gx) ∗ (qM.view.loc (c : Thread nD τ) ↦{fullShare} gq) ∗ (oM.view.loc (c : Thread nD τ) ↦{fullShare} go)
      ∗ (rM.view.loc (c : Thread nD τ) ↦{fullShare} out))
    ∗ (((hb1 kM c).view.loc (c : Thread nD τ) ↦[(hb1 kM c).view.set]{fullShare} gk)
      ∗ ((hb2 kM c).view.loc (c : Thread nD τ) ↦[(hb2 kM c).view.set]{fullShare} gk)
      ∗ ((hb3 kM c).view.loc (c : Thread nD τ) ↦[(hb3 kM c).view.set]{fullShare} gk)
      ∗ ((hb4 kM c).view.loc (c : Thread nD τ) ↦[(hb4 kM c).view.set]{fullShare} gk))
    ∗ (((hb1 vM c).view.loc (c : Thread nD τ) ↦[(hb1 vM c).view.set]{fullShare} gv)
      ∗ ((hb2 vM c).view.loc (c : Thread nD τ) ↦[(hb2 vM c).view.set]{fullShare} gv)
      ∗ ((hb3 vM c).view.loc (c : Thread nD τ) ↦[(hb3 vM c).view.set]{fullShare} gv)
      ∗ ((hb4 vM c).view.loc (c : Thread nD τ) ↦[(hb4 vM c).view.set]{fullShare} gv))
    ∗ ((∃ f, ss0.view.loc (c : Thread nD τ) ↦[ss0.view.set]{fullShare} f) ∗ (∃ f, ss1.view.loc (c : Thread nD τ) ↦[ss1.view.set]{fullShare} f)
      ∗ (∃ f, ss2.view.loc (c : Thread nD τ) ↦[ss2.view.set]{fullShare} f) ∗ (∃ f, ss3.view.loc (c : Thread nD τ) ↦[ss3.view.set]{fullShare} f))
    ∗ ((∃ f, bM.view.loc (c : Thread nD τ) ↦{fullShare} f) ∗ (∃ f, aM.view.loc (c : Thread nD τ) ↦{fullShare} f))
    ∗ (slotAny cs0 c ∗ slotAny cs1 c ∗ slotAny cs2 c ∗ slotAny cs3 c)
    ∗ lsems c
    ∗ (semVal (s0Cell c) 0 ∗ semVal (s2Cell c) 0 ∗ semVal (r1Cell c) 0 ∗ semVal (r3Cell c) 0 ∗ semVal (barCell c) 0)
    ∗ owes (c : Thread nD τ) 0 W)

/-- The result device `c` computes, what arrives being `Xa (p1 c)` and `Xb (p2 c)`. -/
def outOf (p : FVec F S256x1024 .f32) (X Y : FVec F S256x1024 .bf16) : FVec F S256x1024 .f32 := plus (plus p X) Y

set_option maxHeartbeats 1600000 in
theorem run_body (Xa Xb : Dev nD → S256x1024.Idx → Elt F .bf16) (K : Dev nD × Fin 5 → ℕ) (c : Dev nD)
    (gx : Buf (Elt F) ((c : Thread nD τ).loc cc0_stg0_0)) (gq : Buf (Elt F) ((c : Thread nD τ).loc cc0_stg1_0)) (go : Buf (Elt F) ((c : Thread nD τ).loc cc0_stg2_0))
    (gr : Buf (Elt F) ((c : Thread nD τ).loc cc0_stg3_0))
    (gk : Buf (Elt F) ((c : Thread nD τ).loc main_arg2)) (gv : Buf (Elt F) ((c : Thread nD τ).loc main_arg3))
    (f0 f1 f2 f3 : Buf (Elt F) ((c : Thread nD τ).loc cc0_scratch0)) (fb : Buf (Elt F) ((c : Thread nD τ).loc cc0_scratch1)) (fa : Buf (Elt F) ((c : Thread nD τ).loc cc0_scratch2))
    (e0 e2 : Buf (Elt F) ((c : Thread nD τ).loc cc0_scratch3)) (W : Waits sig Bool)
    (hXa : Xa c = sent (part c gx gq go gk gv)) (hXb : Xb c = sent (plus (part c gx gq go gk gv) (Xa (p1 c)))) (Kt : PUnit → sProp 𝕄) :
    iprop(ghost Xa Xb K c ∗ creds c ∗ levAts L lv ∗ bufs c gx gq go gr gk gv f0 f1 f2 f3 fb fa e0 e2 ∗ slotAny cs1 c ∗ slotAny cs3 c ∗ lsems c
        ∗ owes (c : Thread nD τ) (O₀ c) W
        ∗ (∀ W', bodyEnd c gx gq go gk gv (outOf (part c gx gq go gk gv) (Xa (p1 c)) (Xb (p2 c))) W' -∗ Kt ⟨⟩))
      ⊢ wp frame (wpE (defs₀ (F := F)) 𝒱₀ (c : Thread nD τ) none) Set.univ theBody Kt := by
  refine (run₁ Xa Xb K c gx gq go gr gk gv f0 f1 f2 f3 fb fa e0 e2 W _ Kt).2 ?_
  sl_resume
  rw [k0_part21_eq_skeleton, k0_part22_eq_skeleton]; unfold k0_part21_skel k0_part22_skel
  simp (config := { proj := false }) only [Prog.lift, Prog.bind_op, Prog.bind_ret, Prog.pure_eq_ret]
  -- the first transfer, the first partner's slot 1 and that partner's second partner's slot 3 with it
  unfold slotAny
  icases HS1 with ⟨%n1, HS1⟩
  iapply (wp_send₁ Xa Xb K c _ (dev3_eq c) _ ((read_cs0 c gx gq go gk gv e0).trans hXa.symm) n1 _) $$ [He0 HS1 HS3 HO Ht0 Ht1]
  · isplitr; · iexact HI0
    isplitr; · iexact HIr1
    isplitl [He0]; · iexact He0
    isplitl [HS1 HS3]
    · isplitl [HS1]; · iexact HS1
      unfold slotAny; iexact HS3
    isplitl [HO]; · iexact HO
    isplitl [Ht0]; · iexact Ht0
    isplitr; · iexact Hr0
    isplitl [Ht1]; · iexact Ht1
    iexact Hr1
  iintro ⟨Hcs, HO⟩
  -- its departure: the sent slot back
  iapply (Rounds.wp_wait_rest_token 𝒱₀ ER (sched Xa Xb) (c : Thread nD τ) none (κ := K (c, 1))
      (wpE_waitDma2_eq 𝒱₀ (c : Thread nD τ) none Set.univ) (Set.mem_univ _) false (O := tallyAt (r3Cell (p2 c)) true N) (W := _) (R := 0) (m := 0) (T := ∅)
      (by rw [Nat.zero_add, expect_x Xa Xb c s0_ne_bar (.inl rfl)])) $$ [Hcs HO Ha0]
  · isplitr; · iexact HI0
    isplitl [Hcs]; · iexact Hcs
    isplitl [HO]; · iexact HO
    isplitr; · iapply (mayWait_local c _ _ O₃_tc); iexact Hlev
    iexact Ha0
  iintro ⟨HO, Ha0, -, Hpay⟩
  ihave He0 := (Entails.of_eq (rest_s0 Xa Xb c)) $$ Hpay
  -- the first arrival: the first partner's block, and the second partner's slot 3
  iapply (Rounds.wp_wait_rest_token 𝒱₀ ER (sched Xa Xb) (c : Thread nD τ) none (κ := K (c, 3))
      (wpE_waitDma2_eq 𝒱₀ (c : Thread nD τ) none Set.univ) (Set.mem_univ _) true (O := tallyAt (r3Cell (p2 c)) true N) (W := _) (R := 0) (m := 0) (T := ∅)
      (by rw [Nat.zero_add, expect_x Xa Xb c r1_ne_bar (.inr (.inr (.inl rfl)))])) $$ [Hc1 HO Ha1]
  · isplitr; · iexact HI1
    isplitl [Hc1]; · iexact Hc1
    isplitl [HO]; · iexact HO
    isplitr; · iapply (mayWait_r1 c); iexact Hlev
    iexact Ha1
  iintro ⟨HO, Ha1, -, Hpay⟩
  ihave Hp := (Entails.of_eq (rest_r1 Xa Xb c)) $$ Hpay
  unfold r1Pay slotIs slotAny
  icases Hp with ⟨⟨%fr, %hfr, Hq1⟩, ⟨%n3, Hq3⟩⟩
  iapply (wp_load 𝒱₀ (c : Thread nD τ) none Set.univ (m := commM) (r := (Rect.unit (s := S4x256x1024) ![1, 0, 0] S1x256x1024.size inb_S4x256x1024_S1x256x1024_1_0_0).toLoadRect) (load_sub _ _ _)) $$ Hq1; iintro Hq1
  rw [pay130_eq, pay129_eq _ _ _ hfr]
  iapply (wp_load 𝒱₀ (c : Thread nD τ) none Set.univ (m := commM) (r := (Rect.unit (s := S4x256x1024) ![2, 0, 0] S1x256x1024.size inb_S4x256x1024_S1x256x1024_2_0_0).toLoadRect) (load_sub _ _ _)) $$ He2; iintro He2
  iapply (wp_store 𝒱₀ (c : Thread nD τ) none Set.univ (m := commM) (r := Rect.unit (s := S4x256x1024) ![2, 0, 0] S1x256x1024.size inb_S4x256x1024_S1x256x1024_2_0_0) (Mk := Finset.univ) (store_sub _ _ _)) $$ He2; iintro He2
  -- the second transfer
  iapply (wp_send₂ Xa Xb K c _ (dev4_eq c) _ ((read_cs2 _ _).trans hXb.symm) n3 _) $$ [He2 Hq3 HO Ht2 Ht3]
  · isplitr; · iexact HI2
    isplitr; · iexact HIr3
    isplitl [He2]; · iexact He2
    isplitl [Hq3]; · iexact Hq3
    isplitl [HO]; · iexact HO
    isplitl [Ht2]; · iexact Ht2
    isplitr; · iexact Hr2
    isplitl [Ht3]; · iexact Ht3
    iexact Hr3
  iintro ⟨Hcs, HO⟩
  iapply (Rounds.wp_wait_rest_token 𝒱₀ ER (sched Xa Xb) (c : Thread nD τ) none (κ := K (c, 2))
      (wpE_waitDma2_eq 𝒱₀ (c : Thread nD τ) none Set.univ) (Set.mem_univ _) false (O := 0) (W := _) (R := 0) (m := 0) (T := ∅)
      (by rw [Nat.zero_add, expect_x Xa Xb c s2_ne_bar (.inr (.inl rfl))])) $$ [Hcs HO Ha2]
  · isplitr; · iexact HI2
    isplitl [Hcs]; · iexact Hcs
    isplitl [HO]; · iexact HO
    isplitr; · rw [MayWait_zero]; iempintro
    iexact Ha2
  iintro ⟨HO, Ha2, -, Hpay⟩
  ihave He2 := (Entails.of_eq (rest_s2 Xa Xb c)) $$ Hpay
  iapply (Rounds.wp_wait_rest_token 𝒱₀ ER (sched Xa Xb) (c : Thread nD τ) none (κ := K (c, 4))
      (wpE_waitDma2_eq 𝒱₀ (c : Thread nD τ) none Set.univ) (Set.mem_univ _) true (O := 0) (W := _) (R := 0) (m := 0) (T := ∅)
      (by rw [Nat.zero_add, expect_x Xa Xb c r3_ne_bar (.inr (.inr (.inr rfl)))])) $$ [Hc3 HO Ha3]
  · isplitr; · iexact HI3
    isplitl [Hc3]; · iexact Hc3
    isplitl [HO]; · iexact HO
    isplitr; · rw [MayWait_zero]; iempintro
    iexact Ha3
  iintro ⟨HO, Ha3, -, Hpay⟩
  ihave Hp := (Entails.of_eq (rest_r3 Xa Xb c)) $$ Hpay
  unfold r3Pay slotIs
  icases Hp with ⟨%fr', %hfr', Hq3⟩
  iapply (wp_load 𝒱₀ (c : Thread nD τ) none Set.univ (m := commM) (r := (Rect.unit (s := S4x256x1024) ![3, 0, 0] S1x256x1024.size inb_S4x256x1024_S1x256x1024_3_0_0).toLoadRect) (load_sub _ _ _)) $$ Hq3; iintro Hq3
  rw [pay1_eq _ _ _ hfr']
  iapply (wp_load 𝒱₀ (c : Thread nD τ) none Set.univ (m := rM) (Finset.subset_univ _)) $$ Hr; iintro Hr
  iapply (wp_store 𝒱₀ (c : Thread nD τ) none Set.univ (m := rM) (r := Rect.unit (s := S256x1024) ![0, 0] S256x1024.size inb_S256x1024_S256x1024_0_0) (Mk := Finset.univ) (Finset.subset_univ _)) $$ Hr; iintro Hr
  rw [write_out]
  -- the cells close: their counters at zero are the core's again
  imod (Rounds.cell_close ER (sched Xa Xb) (Set.mem_univ (K (c, 1))) (fun h => h) (R := 0 + 1) (duties_later Xa Xb (s0Cell c))) $$ [Ha0] with Hz0
  · isplitr; · iexact HI0
    iexact Ha0
  imod (Rounds.cell_close ER (sched Xa Xb) (Set.mem_univ (K (c, 2))) (fun h => h) (R := 0 + 1) (duties_later Xa Xb (s2Cell c))) $$ [Ha2] with Hz2
  · isplitr; · iexact HI2
    iexact Ha2
  imod (Rounds.cell_close ER (sched Xa Xb) (Set.mem_univ (K (c, 3))) (fun h => h) (R := 0 + 1) (duties_later Xa Xb (r1Cell c))) $$ [Ha1] with Hz1
  · isplitr; · iexact HI1
    iexact Ha1
  imod (Rounds.cell_close ER (sched Xa Xb) (Set.mem_univ (K (c, 4))) (fun h => h) (R := 0 + 1) (duties_later Xa Xb (r3Cell c))) $$ [Ha3] with Hz3
  · isplitr; · iexact HI3
    iexact Ha3
  imod (Rounds.cell_close ER (sched Xa Xb) (Set.mem_univ (K (c, 0))) (fun h => h) (R := 0 + 1) (duties_later Xa Xb (barCell c))) $$ [HaB] with HzB
  · isplitr; · iexact HIb
    iexact HaB
  rw [wp_ret]; imodintro
  iapply HR
  unfold bodyEnd slotAny lsems
  isplitl [Hx Hq Ho Hr]
  · isplitl [Hx]; · iexact Hx
    isplitl [Hq]; · iexact Hq
    isplitl [Ho]; · iexact Ho
    iexact Hr
  isplitl [Hk1 Hk2 Hk3 Hk4]
  · isplitl [Hk1]; · iexact Hk1
    isplitl [Hk2]; · iexact Hk2
    isplitl [Hk3]; · iexact Hk3
    iexact Hk4
  isplitl [Hv1 Hv2 Hv3 Hv4]
  · isplitl [Hv1]; · iexact Hv1
    isplitl [Hv2]; · iexact Hv2
    isplitl [Hv3]; · iexact Hv3
    iexact Hv4
  isplitl [Hs0 Hs1 Hs2 Hs3]
  · isplitl [Hs0]; · iexists _; iexact Hs0
    isplitl [Hs1]; · iexists _; iexact Hs1
    isplitl [Hs2]; · iexists _; iexact Hs2
    iexists _; iexact Hs3
  isplitl [Hb Ha]
  · isplitl [Hb]; · iexists _; iexact Hb
    iexists _; iexact Ha
  isplitl [He0 Hq1 He2 Hq3]
  · isplitl [He0]; · iexact He0
    isplitl [Hq1]; · iexists _; iexact Hq1
    isplitl [He2]; · iexact He2
    iexists _; iexact Hq3
  isplitl [Hl0 Hl1 Hl2 Hl3]
  · isplitl [Hl0]; · iexact Hl0
    isplitl [Hl1]; · iexact Hl1
    isplitl [Hl2]; · iexact Hl2
    iexact Hl3
  isplitl [Hz0 Hz1 Hz2 Hz3 HzB]
  · isplitl [Hz0]; · iexact Hz0
    isplitl [Hz2]; · iexact Hz2
    isplitl [Hz1]; · iexact Hz1
    isplitl [Hz3]; · iexact Hz3
    iexact HzB
  iexact HO

end Cert.KernelIdeal.Hand

end
-- ==== Proof.Split.lean ====
/-
  The buffers cut the way the body holds them: the two scratch rings slot by slot, the arrays of keys and values into
  the four blocks of a device's heads and the rest.
-/
module

public import proofs.«01_k».proof.Proof.Body
public import Idealize.ShloMosaic.Lib.Ring
public import Idealize.ShloMosaic.Lib.Ring.FamCut

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Bool (Elt F) ℕ UU ℕ

omit [FloatOps F] in
theorem big4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-! ## A ring of four slots, whole and slot by slot -/

section Slots

theorem inb_comm (b : Fin 4) : ∀ a, (![b.val, 0, 0] : Fin 3 → ℕ) a + S1x256x1024.size a ≤ S4x256x1024.size a := by
  revert b; decide
theorem inb_stage (b : Fin 4) : ∀ a, (![b.val, 0, 0, 0] : Fin 4 → ℕ) a + S1x1024x8x128.size a ≤ S4x1024x8x128.size a := by
  revert b; decide

abbrev commSlot (b : Fin 4) : Finset S4x256x1024.Idx := (Rect.unit (s := S4x256x1024) ![b.val, 0, 0] S1x256x1024.size (inb_comm b)).set
abbrev stageSlot (b : Fin 4) : Finset S4x1024x8x128.Idx := (Rect.unit (s := S4x1024x8x128) ![b.val, 0, 0, 0] S1x1024x8x128.size (inb_stage b)).set

theorem commSlot_disjoint : ∀ b b', b ≠ b' → Disjoint (commSlot b) (commSlot b') :=
  Ring.lead_disjoint (s := S4x256x1024) (0 : Fin 3) 1 (fun b : Fin 4 => (![b.val, 0, 0] : Fin 3 → ℕ)) S1x256x1024.size inb_comm (fun b => by simp) rfl
theorem commSlot_cover : Finset.univ.biUnion commSlot = Finset.univ :=
  Ring.lead_cover (s := S4x256x1024) (0 : Fin 3) 1 (fun b : Fin 4 => (![b.val, 0, 0] : Fin 3 → ℕ)) S1x256x1024.size inb_comm (fun b => by simp)
    (by decide) rfl (by decide) rfl
theorem stageSlot_disjoint : ∀ b b', b ≠ b' → Disjoint (stageSlot b) (stageSlot b') :=
  Ring.lead_disjoint (s := S4x1024x8x128) (0 : Fin 4) 1 (fun b : Fin 4 => (![b.val, 0, 0, 0] : Fin 4 → ℕ)) S1x1024x8x128.size inb_stage (fun b => by simp) rfl
theorem stageSlot_cover : Finset.univ.biUnion stageSlot = Finset.univ :=
  Ring.lead_cover (s := S4x1024x8x128) (0 : Fin 4) 1 (fun b : Fin 4 => (![b.val, 0, 0, 0] : Fin 4 → ℕ)) S1x1024x8x128.size inb_stage (fun b => by simp)
    (by decide) rfl (by decide) rfl

theorem cs0_set : (cs0 : Memref sig .tc .vmem S256x1024 .bf16).view.set = commSlot 0 := (View.set_reshape _ _).trans (View.set_slice_whole _ _)
theorem cs1_set : (cs1 : Memref sig .tc .vmem S256x1024 .bf16).view.set = commSlot 1 := (View.set_reshape _ _).trans (View.set_slice_whole _ _)
theorem cs2_set : (cs2 : Memref sig .tc .vmem S256x1024 .bf16).view.set = commSlot 2 := (View.set_reshape _ _).trans (View.set_slice_whole _ _)
theorem cs3_set : (cs3 : Memref sig .tc .vmem S256x1024 .bf16).view.set = commSlot 3 := (View.set_reshape _ _).trans (View.set_slice_whole _ _)
theorem ss0_set : (ss0 : Memref sig .tc .vmem S1024x8x128 .f32).view.set = stageSlot 0 := (View.set_reshape _ _).trans (View.set_slice_whole _ _)
theorem ss1_set : (ss1 : Memref sig .tc .vmem S1024x8x128 .f32).view.set = stageSlot 1 := (View.set_reshape _ _).trans (View.set_slice_whole _ _)
theorem ss2_set : (ss2 : Memref sig .tc .vmem S1024x8x128 .f32).view.set = stageSlot 2 := (View.set_reshape _ _).trans (View.set_slice_whole _ _)
theorem ss3_set : (ss3 : Memref sig .tc .vmem S1024x8x128 .f32).view.set = stageSlot 3 := (View.set_reshape _ _).trans (View.set_slice_whole _ _)

variable (c : Dev nD)

omit [FloatOps F] in
/-- The exchange's ring as its slots; -/
theorem comm_split (f : Buf (Elt F) ((c : Thread nD τ).loc cc0_scratch3)) :
    (((c : Thread nD τ).loc cc0_scratch3) ↦{fullShare} f : sProp 𝕄)
      ⊢ iprop((cs0.view.loc (c : Thread nD τ) ↦[cs0.view.set]{fullShare} f) ∗ slotAny cs1 c
        ∗ (cs2.view.loc (c : Thread nD τ) ↦[cs2.view.set]{fullShare} f) ∗ slotAny cs3 c) := by
  refine (Entails.of_eq ((Ring.pointsTo_blocks (ℓ := (c : Thread nD τ).loc cc0_scratch3) commSlot commSlot_disjoint commSlot_cover f).trans (big4 _))).trans ?_
  unfold slotAny
  rw [cs0_set, cs1_set, cs2_set, cs3_set]
  iintro ⟨H0, H1, H2, H3⟩
  isplitl [H0]; · iexact H0
  isplitl [H1]; · iexists f; iexact H1
  isplitl [H2]; · iexact H2
  iexists f; iexact H3

omit [FloatOps F] in
/-- and back. -/
theorem comm_join :
    iprop(slotAny cs0 c ∗ slotAny cs1 c ∗ slotAny cs2 c ∗ slotAny cs3 c)
      ⊢ (iprop(∃ f : Buf (Elt F) ((c : Thread nD τ).loc cc0_scratch3), ((c : Thread nD τ).loc cc0_scratch3) ↦{fullShare} f) : sProp 𝕄) := by
  unfold slotAny
  rw [cs0_set, cs1_set, cs2_set, cs3_set]
  iintro ⟨⟨%f, H0⟩, H1, H2, H3⟩
  iapply (Ring.pointsTo_blocks_join_exists (ℓ := (c : Thread nD τ).loc cc0_scratch3) commSlot commSlot_disjoint commSlot_cover f)
  rw [big4]
  isplitl [H0]; · iexists f; iexact H0
  isplitl [H1]; · iexact H1
  isplitl [H2]; · iexact H2
  iexact H3

omit [FloatOps F] in
/-- The loads' ring as its slots; -/
theorem stage_split (f : Buf (Elt F) ((c : Thread nD τ).loc cc0_scratch0)) :
    (((c : Thread nD τ).loc cc0_scratch0) ↦{fullShare} f : sProp 𝕄)
      ⊢ iprop((ss0.view.loc (c : Thread nD τ) ↦[ss0.view.set]{fullShare} f) ∗ (ss1.view.loc (c : Thread nD τ) ↦[ss1.view.set]{fullShare} f)
        ∗ (ss2.view.loc (c : Thread nD τ) ↦[ss2.view.set]{fullShare} f) ∗ (ss3.view.loc (c : Thread nD τ) ↦[ss3.view.set]{fullShare} f)) := by
  refine (Entails.of_eq ((Ring.pointsTo_blocks (ℓ := (c : Thread nD τ).loc cc0_scratch0) stageSlot stageSlot_disjoint stageSlot_cover f).trans (big4 _))).trans ?_
  rw [ss0_set, ss1_set, ss2_set, ss3_set]

omit [FloatOps F] in
/-- and back. -/
theorem stage_join :
    iprop((∃ f, ss0.view.loc (c : Thread nD τ) ↦[ss0.view.set]{fullShare} f) ∗ (∃ f, ss1.view.loc (c : Thread nD τ) ↦[ss1.view.set]{fullShare} f)
        ∗ (∃ f, ss2.view.loc (c : Thread nD τ) ↦[ss2.view.set]{fullShare} f) ∗ (∃ f, ss3.view.loc (c : Thread nD τ) ↦[ss3.view.set]{fullShare} f))
      ⊢ (iprop(∃ f : Buf (Elt F) ((c : Thread nD τ).loc cc0_scratch0), ((c : Thread nD τ).loc cc0_scratch0) ↦{fullShare} f) : sProp 𝕄) := by
  rw [ss0_set, ss1_set, ss2_set, ss3_set]
  iintro ⟨⟨%f, H0⟩, H1, H2, H3⟩
  iapply (Ring.pointsTo_blocks_join_exists (ℓ := (c : Thread nD τ).loc cc0_scratch0) stageSlot stageSlot_disjoint stageSlot_cover f)
  rw [big4]
  isplitl [H0]; · iexists f; iexact H0
  isplitl [H1]; · iexact H1
  isplitl [H2]; · iexact H2
  iexact H3

end Slots

/-! ## A device's heads in an array of keys or values -/

section Heads

variable (c : Dev nD)

/-- Block `b` of the rows, at device `c`'s heads. -/
abbrev headsAt (b : Fin 4) : Finset S1x4096x32x128.Idx := match b with
  | 0 => (Rect.unit (s := S1x4096x32x128) (k0_off1 c) S1x1024x8x128.size (k0_off1_inb c)).set
  | 1 => (Rect.unit (s := S1x4096x32x128) (k0_off2 c) S1x1024x8x128.size (k0_off2_inb c)).set
  | 2 => (Rect.unit (s := S1x4096x32x128) (k0_off3 c) S1x1024x8x128.size (k0_off3_inb c)).set
  | 3 => (Rect.unit (s := S1x4096x32x128) (k0_off4 c) S1x1024x8x128.size (k0_off4_inb c)).set

/-- Its rows are `1024 b` and on. -/
theorem headsAt_rows {b : Fin 4} {i : S1x4096x32x128.Idx} (h : i ∈ headsAt c b) :
    1024 * b.val ≤ (i (1 : Fin 4)).val ∧ (i (1 : Fin 4)).val < 1024 * b.val + 1024 := by
  have off : ∀ o : Fin 4 → ℕ, ∀ inb, ∀ n, o = ![0, n, 8 * c.val, 0] → i ∈ (Rect.unit (s := S1x4096x32x128) o S1x1024x8x128.size inb).set →
      n ≤ (i (1 : Fin 4)).val ∧ (i (1 : Fin 4)).val < n + 1024 := by
    intro o inb n ho hi
    subst ho
    exact Rect.mem_set_unit.mp hi (1 : Fin 4)
  fin_cases b
  · exact off _ _ 0 (k0_off1_eq c) h
  · exact off _ _ 1024 (k0_off2_eq c) h
  · exact off _ _ 2048 (k0_off3_eq c) h
  · exact off _ _ 3072 (k0_off4_eq c) h

theorem headsAt_disjoint (b b' : Fin 4) (hb : b ≠ b') : Disjoint (headsAt c b) (headsAt c b') := by
  rw [Finset.disjoint_left]
  intro i hi hi'
  have h := headsAt_rows c hi
  have h' := headsAt_rows c hi'
  exact hb (Fin.ext (by omega))

theorem hb1k_set : (hb1 kM c).view.set = headsAt c 0 := (View.set_reshape _ _).trans (View.set_slice_whole _ _)
theorem hb2k_set : (hb2 kM c).view.set = headsAt c 1 := (View.set_reshape _ _).trans (View.set_slice_whole _ _)
theorem hb3k_set : (hb3 kM c).view.set = headsAt c 2 := (View.set_reshape _ _).trans (View.set_slice_whole _ _)
theorem hb4k_set : (hb4 kM c).view.set = headsAt c 3 := (View.set_reshape _ _).trans (View.set_slice_whole _ _)
theorem hb1v_set : (hb1 vM c).view.set = headsAt c 0 := (View.set_reshape _ _).trans (View.set_slice_whole _ _)
theorem hb2v_set : (hb2 vM c).view.set = headsAt c 1 := (View.set_reshape _ _).trans (View.set_slice_whole _ _)
theorem hb3v_set : (hb3 vM c).view.set = headsAt c 2 := (View.set_reshape _ _).trans (View.set_slice_whole _ _)
theorem hb4v_set : (hb4 vM c).view.set = headsAt c 3 := (View.set_reshape _ _).trans (View.set_slice_whole _ _)

omit [FloatOps F] in
theorem heads_eq {ℓ : Loc nD τ sig} (I : Fin 4 → Finset (Idx ℓ)) (hd : ∀ b b', b ≠ b' → Disjoint (I b) (I b')) (f : Buf (Elt F) ℓ) :
    (ℓ ↦{fullShare} f : sProp 𝕄) ⊣⊢ iprop(((ℓ ↦[I 0]{fullShare} f) ∗ (ℓ ↦[I 1]{fullShare} f) ∗ (ℓ ↦[I 2]{fullShare} f) ∗ (ℓ ↦[I 3]{fullShare} f))
      ∗ ℓ ↦[Ring.restOf I]{fullShare} f) := by
  rw [← big4 (fun b => (ℓ ↦[I b]{fullShare} f : sProp 𝕄)), ← pointsTo_biUnion Finset.univ I (fun b _ b' _ h => hd b b' h)]
  exact pointsTo_split_subset (Finset.subset_univ _)

/-- What the blocks leave of the array of keys, and of values. -/
def restK (gk : Buf (Elt F) ((c : Thread nD τ).loc main_arg2)) : sProp 𝕄 :=
  ((c : Thread nD τ).loc main_arg2) ↦[Ring.restOf (ℓ := (c : Thread nD τ).loc main_arg2) (headsAt c)]{fullShare} gk
def restV (gv : Buf (Elt F) ((c : Thread nD τ).loc main_arg3)) : sProp 𝕄 :=
  ((c : Thread nD τ).loc main_arg3) ↦[Ring.restOf (ℓ := (c : Thread nD τ).loc main_arg3) (headsAt c)]{fullShare} gv

omit [FloatOps F] in
theorem keys_eq (gk : Buf (Elt F) ((c : Thread nD τ).loc main_arg2)) :
    (((c : Thread nD τ).loc main_arg2) ↦{fullShare} gk : sProp 𝕄)
      ⊣⊢ iprop((((hb1 kM c).view.loc (c : Thread nD τ) ↦[(hb1 kM c).view.set]{fullShare} gk)
        ∗ ((hb2 kM c).view.loc (c : Thread nD τ) ↦[(hb2 kM c).view.set]{fullShare} gk)
        ∗ ((hb3 kM c).view.loc (c : Thread nD τ) ↦[(hb3 kM c).view.set]{fullShare} gk)
        ∗ ((hb4 kM c).view.loc (c : Thread nD τ) ↦[(hb4 kM c).view.set]{fullShare} gk)) ∗ restK c gk) := by
  rw [hb1k_set, hb2k_set, hb3k_set, hb4k_set]
  exact heads_eq (ℓ := (c : Thread nD τ).loc main_arg2) (headsAt c) (headsAt_disjoint c) gk

omit [FloatOps F] in
theorem values_eq (gv : Buf (Elt F) ((c : Thread nD τ).loc main_arg3)) :
    (((c : Thread nD τ).loc main_arg3) ↦{fullShare} gv : sProp 𝕄)
      ⊣⊢ iprop((((hb1 vM c).view.loc (c : Thread nD τ) ↦[(hb1 vM c).view.set]{fullShare} gv)
        ∗ ((hb2 vM c).view.loc (c : Thread nD τ) ↦[(hb2 vM c).view.set]{fullShare} gv)
        ∗ ((hb3 vM c).view.loc (c : Thread nD τ) ↦[(hb3 vM c).view.set]{fullShare} gv)
        ∗ ((hb4 vM c).view.loc (c : Thread nD τ) ↦[(hb4 vM c).view.set]{fullShare} gv)) ∗ restV c gv) := by
  rw [hb1v_set, hb2v_set, hb3v_set, hb4v_set]
  exact heads_eq (ℓ := (c : Thread nD τ).loc main_arg3) (headsAt c) (headsAt_disjoint c) gv

end Heads

end Cert.KernelIdeal.Hand

end
-- ==== Proof.Ghost.lean ====
/-
  The exchange set up before the devices start: its cells' invariants allocated, the tokens dealt to the devices that pay
  with them, and the credits of what each device is owed.
-/
module

public import proofs.«01_k».proof.Proof.Body

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Bool (Elt F) ℕ UU ℕ

/-! ## The kernel's semaphores -/

/-- The semaphores of the departures and the arrivals no transfer of the kernel names. -/
abbrev s1S : DmaSem sig := ((cc0_scratch5.slice (Rect.unit (s := S4) ![1] S1.size inb_S4_S1_1)).squeeze S_ squeezes_S1_S_ : DmaSems sig S_).sem
abbrev s3S : DmaSem sig := ((cc0_scratch5.slice (Rect.unit (s := S4) ![3] S1.size inb_S4_S1_3)).squeeze S_ squeezes_S1_S_ : DmaSems sig S_).sem
abbrev r0S : DmaSem sig := ((cc0_scratch6.slice (Rect.unit (s := S4) ![0] S1.size inb_S4_S1_0)).squeeze S_ squeezes_S1_S_ : DmaSems sig S_).sem
abbrev r2S : DmaSem sig := ((cc0_scratch6.slice (Rect.unit (s := S4) ![2] S1.size inb_S4_S1_2)).squeeze S_ squeezes_S1_S_ : DmaSems sig S_).sem

/-- All twelve. -/
abbrev osem : Fin 12 → SemLoc sig := fun
  | 0 => .dma l0S | 1 => .dma l1S | 2 => .dma l2S | 3 => .dma l3S
  | 4 => .dma s0S | 5 => .dma s1S | 6 => .dma s2S | 7 => .dma s3S
  | 8 => .dma r0S | 9 => .dma r1S | 10 => .dma r2S | 11 => .dma r3S

theorem ownSemFacts : Pipeline.OwnSemFacts cfg0.spec osem := by decide

/-- The idle ones, at zero. -/
def idle (c : Dev nD) : sProp 𝕄 :=
  iprop(semVal ((c : Thread nD τ), SemLoc.dma s1S) 0 ∗ semVal ((c : Thread nD τ), SemLoc.dma s3S) 0 ∗ semVal ((c : Thread nD τ), SemLoc.dma r0S) 0
    ∗ semVal ((c : Thread nD τ), SemLoc.dma r2S) 0)

omit [FloatOps F] in
theorem ownSems0_eq (c : Dev nD) : (Pipeline.ownSems0 (Ix := Bool) (Name := ℕ) (U := UU) (Lvl := ℕ) (Val := Elt F) (τ := τ) osem c : sProp 𝕄)
    = iprop(semVal ((c : Thread nD τ), SemLoc.dma l0S) 0 ∗ semVal ((c : Thread nD τ), SemLoc.dma l1S) 0 ∗ semVal ((c : Thread nD τ), SemLoc.dma l2S) 0
      ∗ semVal ((c : Thread nD τ), SemLoc.dma l3S) 0
      ∗ semVal (s0Cell c) 0 ∗ semVal ((c : Thread nD τ), SemLoc.dma s1S) 0 ∗ semVal (s2Cell c) 0 ∗ semVal ((c : Thread nD τ), SemLoc.dma s3S) 0
      ∗ semVal ((c : Thread nD τ), SemLoc.dma r0S) 0 ∗ semVal (r1Cell c) 0 ∗ semVal ((c : Thread nD τ), SemLoc.dma r2S) 0 ∗ semVal (r3Cell c) 0) := by
  rw [Pipeline.ownSems0_eq_of_list c osem [0, 1, 2, 3, 4, 5, 6, 7, 8, 9, 10, 11] (by decide) (by decide)]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The semaphores at zero, those of the exchange apart; -/
theorem ownSems0_split (c : Dev nD) :
    (Pipeline.ownSems0 (Ix := Bool) (Name := ℕ) (U := UU) (Lvl := ℕ) (Val := Elt F) (τ := τ) osem c : sProp 𝕄)
      ⊢ iprop((semVal (s0Cell c) 0 ∗ semVal (s2Cell c) 0 ∗ semVal (r1Cell c) 0 ∗ semVal (r3Cell c) 0) ∗ lsems c ∗ idle c) := by
  rw [ownSems0_eq]; unfold lsems idle
  iintro ⟨L0, L1, L2, L3, S0, S1, S2, S3, R0, R1, R2, R3⟩
  isplitl [S0 S2 R1 R3]
  · isplitl [S0]; · iexact S0
    isplitl [S2]; · iexact S2
    isplitl [R1] <;> iassumption
  isplitl [L0 L1 L2 L3]
  · isplitl [L0]; · iexact L0
    isplitl [L1]; · iexact L1
    isplitl [L2] <;> iassumption
  isplitl [S1]; · iexact S1
  isplitl [S3]; · iexact S3
  isplitl [R0] <;> iassumption
omit [FloatOps F] in
/-- and back. -/
theorem ownSems0_join (c : Dev nD) :
    iprop((semVal (s0Cell c) 0 ∗ semVal (s2Cell c) 0 ∗ semVal (r1Cell c) 0 ∗ semVal (r3Cell c) 0) ∗ lsems c ∗ idle c)
      ⊢ (Pipeline.ownSems0 (Ix := Bool) (Name := ℕ) (U := UU) (Lvl := ℕ) (Val := Elt F) (τ := τ) osem c : sProp 𝕄) := by
  rw [ownSems0_eq]; unfold lsems idle
  iintro ⟨⟨S0, S2, R1, R3⟩, ⟨L0, L1, L2, L3⟩, ⟨S1, S3, R0, R2⟩⟩
  isplitl [L0]; · iexact L0
  isplitl [L1]; · iexact L1
  isplitl [L2]; · iexact L2
  isplitl [L3]; · iexact L3
  isplitl [S0]; · iexact S0
  isplitl [S1]; · iexact S1
  isplitl [S2]; · iexact S2
  isplitl [S3]; · iexact S3
  isplitl [R0]; · iexact R0
  isplitl [R1]; · iexact R1
  isplitl [R2] <;> iassumption

/-! ## The cells and the tokens minted -/

theorem kcell_injective : Function.Injective (kcell : Dev nD × Fin 5 → GSem nD τ sig) := by
  rintro ⟨c, k⟩ ⟨c', k'⟩ h
  have h1 : c = c' := congrArg (fun g : GSem nD τ sig => g.1.1) h
  have h2 : k = k' := csem_inj (congrArg Prod.snd h)
  rw [h1, h2]
def xCells : Finset (GSem nD τ sig) := Finset.univ.map ⟨kcell, kcell_injective⟩

/-- A device's own cells' tokens: both duties of its barrier, the one duty of each other cell. -/
abbrev tokSem : Fin 6 → Fin 5 × Bool := fun | 0 => (0, false) | 1 => (0, true) | 2 => (1, false) | 3 => (2, false) | 4 => (3, false) | 5 => (4, false)
theorem tokSem_inj : Function.Injective tokSem := by decide
abbrev tokOf (cj : Dev nD × Fin 6) : GSem nD τ sig × ℕ × Bool := (kcell (cj.1, (tokSem cj.2).1), 0, (tokSem cj.2).2)
theorem tokOf_injective : Function.Injective (tokOf : Dev nD × Fin 6 → GSem nD τ sig × ℕ × Bool) := by
  rintro ⟨c, j⟩ ⟨c', j'⟩ h
  have h1 := kcell_injective (congrArg Prod.fst h)
  have h2 : (tokSem j).2 = (tokSem j').2 := congrArg (fun x : GSem nD τ sig × ℕ × Bool => x.2.2) h
  have h3 : j = j' := tokSem_inj (Prod.ext (congrArg Prod.snd h1) h2)
  have h4 : c = c' := congrArg Prod.fst h1
  rw [h3, h4]
def xToks : Finset (GSem nD τ sig × ℕ × Bool) := Finset.univ.map ⟨tokOf, tokOf_injective⟩

def u₀ : UU :=
  (initOf (Pipeline.cells cfgs cellOf_inj) (Pipeline.launchToks cfgs cellOf_inj), (initOf xCells xToks, 1))

omit [FloatOps F] in
theorem u₀_split (a : UR sig nD τ) (b : UB) : (ownU ((a, (b, 1)) : UU) : sProp 𝕄) ⊢ iprop(BI.own (EP a) ∗ BI.own (ER b)) :=
  BI.own_op_elim ((uEmb (nD := nD) (sig := sig) (Ix := Bool) (Val := Elt F) (Name := ℕ) (U := UU) (Lvl := ℕ)).toEmb.op_of_mem
    (Prod.mk_mem_op (URA.mem_op_one a) (URA.mem_one_op (b, (1 : Counters)))))

/-- The tokens of device `c`'s own cells; and those device `c` pays with. -/
def toks (c : Dev nD) : sProp 𝕄 :=
  iprop(dutyTok ER (barCell c) 0 false ∗ dutyTok ER (barCell c) 0 true ∗ dutyTok ER (s0Cell c) 0 false ∗ dutyTok ER (s2Cell c) 0 false
    ∗ dutyTok ER (r1Cell c) 0 false ∗ dutyTok ER (r3Cell c) 0 false)
def payToks (c : Dev nD) : sProp 𝕄 :=
  iprop(dutyTok ER (barCell (prv c)) 0 true ∗ dutyTok ER (barCell (nxt c)) 0 false ∗ dutyTok ER (s0Cell c) 0 false ∗ dutyTok ER (s2Cell c) 0 false
    ∗ dutyTok ER (r1Cell (p1 c)) 0 false ∗ dutyTok ER (r3Cell (p2 c)) 0 false)

omit [FloatOps F] in
/-- Dealt: a barrier's `true` token to the next device, its `false` token to the previous one, an arrival's to the partner. -/
theorem toks_dealt : (bigSep Finset.univ fun c : Dev nD => (toks c : sProp 𝕄)) ⊢ bigSep Finset.univ fun c : Dev nD => payToks c := by
  unfold toks payToks
  simp only [bigSep_sep']
  rw [bigSep_univ_equiv ring (fun c : Dev nD => (dutyTok ER (barCell c) 0 false : sProp 𝕄)),
    bigSep_univ_equiv ring.symm (fun c : Dev nD => (dutyTok ER (barCell c) 0 true : sProp 𝕄)),
    bigSep_univ_equiv sw1 (fun c : Dev nD => (dutyTok ER (r1Cell c) 0 false : sProp 𝕄)),
    bigSep_univ_equiv sw2 (fun c : Dev nD => (dutyTok ER (r3Cell c) 0 false : sProp 𝕄))]
  iintro ⟨H1, H2, H3, H4, H5, H6⟩
  isplitl [H2]; · iexact H2
  isplitl [H1]; · iexact H1
  isplitl [H3]; · iexact H3
  isplitl [H4]; · iexact H4
  isplitl [H5]; · iexact H5
  iexact H6

omit [FloatOps F] in
theorem big5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
omit [FloatOps F] in
theorem big6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-! ## The set-up of all devices at once -/

section Setup

variable (Xa Xb : Dev nD → S256x1024.Idx → Elt F .bf16)

/-- A device's positions on its five cells, with the marks. -/
def spots (c : Dev nD) : sProp 𝕄 := bigSep Finset.univ fun k : Fin 5 => iprop(atPos ER (kcell (c, k)) 0 ∅ 0 ∗ reached ER (kcell (c, k)) 0)

/-- What the launch element deals device `c`. -/
def G (c : Dev nD) : sProp 𝕄 :=
  iprop((bigSep Finset.univ fun k : Fin 5 => roundState ER (sched Xa Xb) (kcell (c, k)) 0) ∗ spots c ∗ toks c)

/-- What the set-up makes of it. -/
def G' (c : Dev nD) : sProp 𝕄 := iprop((∃ K, ghost Xa Xb K c) ∗ lsems c ∗ idle c)

omit [FloatOps F] in
theorem fund : BI.own (ER (initOf xCells xToks)) ⊢ (|==> bigSep Finset.univ (G Xa Xb) : sProp 𝕄) := by
  have hX (Φ : GSem nD τ sig → sProp 𝕄) : bigSep xCells Φ = bigSep Finset.univ fun c : Dev nD => bigSep Finset.univ fun k : Fin 5 => Φ (kcell (c, k)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks; rw [bigSep_map, bigSep_univ_prod]
    exact bigSep_congr fun c _ => by unfold toks; rw [big6]; rfl
  iintro HX
  imod (Rounds.fund ER (sched Xa Xb) xCells xToks) $$ HX with ⟨Hst, Hr, Hat, Htok⟩
  imodintro
  ihave Hst' := (Entails.of_eq (hX fun g => roundState ER (sched Xa Xb) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G spots; simp only [bigSep_sep']
  isplitl [Hst']; · iexact Hst'
  isplitl [Hat' Hr']
  · isplitl [Hat'] <;> iassumption
  iexact Htok'

/-- One device's invariants, under some names. -/
def opened (c : Dev nD) : sProp 𝕄 := bigSep Finset.univ fun k : Fin 5 => iprop(∃ κ : ℕ, cellInv ER (sched Xa Xb) κ (kcell (c, k)))

omit [FloatOps F] in
theorem core_alloc (c : Dev nD) :
    iprop(Pipeline.ownSems0 (Ix := Bool) (Name := ℕ) (U := UU) (Lvl := ℕ) (Val := Elt F) (τ := τ) osem c ∗ unscopedSems0 c ∗ G Xa Xb c)
      ⊢ |={Set.univ}=> iprop(opened Xa Xb c ∗ spots c ∗ toks c ∗ lsems c ∗ idle c) := by
  unfold G
  iintro ⟨Hos, Hus, Hst, Hat, Htok⟩
  ihave Hos := (ownSems0_split (F := F) c) $$ Hos
  icases Hos with ⟨⟨S0, S2, R1, R3⟩, Hl, Hi⟩
  ihave HB := (Entails.of_eq (unscopedSems0_eq (F := F) c)) $$ Hus
  imod (show iprop((bigSep Finset.univ fun k : Fin 5 => semVal (kcell (c, k)) 0) ∗ bigSep Finset.univ fun k : Fin 5 => roundState ER (sched Xa Xb) (kcell (c, k)) 0)
      ⊢ (|={Set.univ}=> opened Xa Xb c : sProp 𝕄) from by
        unfold opened
        rw [← bigSep_sep']
        exact (bigSep_mono fun k _ => (Rounds.body_intro ER (sched Xa Xb) (kcell (c, k))).trans inv_alloc).trans (bigSep_fupd _ _)) $$ [HB S0 S2 R1 R3 Hst] with Hinv
  · isplitr [Hst]
    · rw [big5]
      isplitl [HB]; · iexact HB
      isplitl [S0]; · iexact S0
      isplitl [S2]; · iexact S2
      isplitl [R1] <;> iassumption
    iexact Hst
  imodintro
  isplitl [Hinv]; · iexact Hinv
  isplitl [Hat]; · iexact Hat
  isplitl [Htok]; · iexact Htok
  isplitl [Hl] <;> iassumption

/-- What every device knows: all the invariants and all the marks. -/
def records (K : Dev nD × Fin 5 → ℕ) : sProp 𝕄 :=
  iprop((bigSep Finset.univ fun ck : Dev nD × Fin 5 => cellInv ER (sched Xa Xb) (K ck) (kcell ck))
    ∗ bigSep Finset.univ fun ck : Dev nD × Fin 5 => reached ER (kcell ck) 0)

instance records_persistent (K : Dev nD × Fin 5 → ℕ) : BI.Persistent (records (F := F) Xa Xb K) := by unfold records; infer_instance

omit [FloatOps F] in
theorem inv_at (K : Dev nD × Fin 5 → ℕ) (ck : Dev nD × Fin 5) :
    (bigSep Finset.univ fun ck : Dev nD × Fin 5 => (cellInv ER (sched Xa Xb) (K ck) (kcell ck) : sProp 𝕄)) ⊢ cellInv ER (sched Xa Xb) (K ck) (kcell ck) :=
  bigSep_elim (Finset.mem_univ ck)
omit [FloatOps F] in
theorem mark_at (ck : Dev nD × Fin 5) :
    (bigSep Finset.univ fun ck : Dev nD × Fin 5 => (reached ER (kcell ck) 0 : sProp 𝕄)) ⊢ reached ER (kcell ck) 0 :=
  bigSep_elim (Finset.mem_univ ck)

/-- What device `c` alone holds. -/
def alone (c : Dev nD) : sProp 𝕄 :=
  iprop((bigSep Finset.univ fun k : Fin 5 => (atPos ER (kcell (c, k)) 0 ∅ 0 : sProp 𝕄)) ∗ payToks c ∗ lsems c ∗ idle c)

omit [FloatOps F] in
theorem invs_intro (K : Dev nD × Fin 5 → ℕ) (c : Dev nD) : records Xa Xb K ⊢ invs (F := F) Xa Xb K c := by
  unfold records invs
  iintro ⟨#HI, -⟩
  isplitr; · iapply (inv_at Xa Xb K (c, 0)); iexact HI
  isplitr; · iapply (inv_at Xa Xb K (c, 1)); iexact HI
  isplitr; · iapply (inv_at Xa Xb K (c, 2)); iexact HI
  isplitr; · iapply (inv_at Xa Xb K (c, 3)); iexact HI
  isplitr; · iapply (inv_at Xa Xb K (c, 4)); iexact HI
  isplitr; · iapply (inv_at Xa Xb K (prv c, 0)); iexact HI
  isplitr; · iapply (inv_at Xa Xb K (nxt c, 0)); iexact HI
  isplitr; · iapply (inv_at Xa Xb K (p1 c, 3)); iexact HI
  iapply (inv_at Xa Xb K (p2 c, 4)); iexact HI

omit [FloatOps F] in
theorem marks_intro (K : Dev nD × Fin 5 → ℕ) (c : Dev nD) : records Xa Xb K ⊢ marks (F := F) c := by
  unfold records marks
  iintro ⟨-, #HR⟩
  isplitr; · iapply (mark_at (F := F) (prv c, 0)); iexact HR
  isplitr; · iapply (mark_at (F := F) (nxt c, 0)); iexact HR
  isplitr; · iapply (mark_at (F := F) (c, 1)); iexact HR
  isplitr; · iapply (mark_at (F := F) (c, 2)); iexact HR
  isplitr; · iapply (mark_at (F := F) (p1 c, 3)); iexact HR
  iapply (mark_at (F := F) (p2 c, 4)); iexact HR

omit [FloatOps F] in
theorem ghost_intro (K : Dev nD × Fin 5 → ℕ) (c : Dev nD) : iprop(records Xa Xb K ∗ alone c) ⊢ G' (F := F) Xa Xb c := by
  unfold alone G' ghost payToks
  rw [big5]
  iintro ⟨#HR, Hat, Htok, Hl, Hi⟩
  isplitl [Hat Htok]
  · iexists K
    isplitr; · iapply (invs_intro Xa Xb K c); iexact HR
    isplitr; · iapply (marks_intro Xa Xb K c); iexact HR
    isplitl [Hat]; · iexact Hat
    iexact Htok
  isplitl [Hl] <;> iassumption

omit [FloatOps F] in
theorem dealt_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop(opened Xa Xb c ∗ spots c ∗ toks c ∗ lsems c ∗ idle c) : sProp 𝕄) ⊢ bigSep Finset.univ (G' Xa Xb) := by
  have e1 : (bigSep Finset.univ fun c : Dev nD => opened Xa Xb c : sProp 𝕄)
      = bigSep Finset.univ fun ck : Dev nD × Fin 5 => iprop(∃ κ : ℕ, cellInv ER (sched Xa Xb) κ (kcell ck)) := by
    unfold opened; rw [bigSep_univ_prod]
  have e2 : (bigSep Finset.univ fun c : Dev nD => spots c : sProp 𝕄)
      = iprop((bigSep Finset.univ fun c : Dev nD => bigSep Finset.univ fun k : Fin 5 => atPos ER (kcell (c, k)) 0 ∅ 0)
        ∗ bigSep Finset.univ fun ck : Dev nD × Fin 5 => reached ER (kcell ck) 0) := by
    unfold spots; simp only [bigSep_sep']; rw [bigSep_univ_prod (fun ck : Dev nD × Fin 5 => (reached ER (kcell ck) 0 : sProp 𝕄))]
  have e3 : (bigSep Finset.univ fun c : Dev nD => alone c : sProp 𝕄)
      = iprop((bigSep Finset.univ fun c : Dev nD => bigSep Finset.univ fun k : Fin 5 => atPos ER (kcell (c, k)) 0 ∅ 0)
        ∗ (bigSep Finset.univ fun c : Dev nD => payToks c) ∗ (bigSep Finset.univ fun c : Dev nD => lsems c) ∗ bigSep Finset.univ fun c : Dev nD => idle c) := by
    unfold alone; simp only [bigSep_sep']
  rw [bigSep_sep', bigSep_sep', bigSep_sep', bigSep_sep', e1, e2]
  iintro ⟨HI, ⟨Hat, #HR⟩, Htok, Hl, Hi⟩
  ihave HK := (BI.bigSep_exists_pi Finset.univ (fun (ck : Dev nD × Fin 5) (κ : ℕ) => (cellInv ER (sched Xa Xb) κ (kcell ck) : sProp 𝕄))) $$ HI
  icases HK with ⟨%K, #HI⟩
  ihave Htk := (toks_dealt (F := F)) $$ Htok
  iapply (dealt_with (R := records Xa Xb K) (Φ := alone) fun c _ => ghost_intro Xa Xb K c)
  isplitr
  · unfold records; isplitl; · iexact HI
    iexact HR
  rw [e3]
  isplitl [Hat]; · iexact Hat
  isplitl [Htk]; · iexact Htk
  isplitl [Hl] <;> iassumption

omit [FloatOps F] in
theorem glob : (bigSep Finset.univ fun c => iprop(Pipeline.ownSems0 (Ix := Bool) (Name := ℕ) (U := UU) (Lvl := ℕ) (Val := Elt F) (τ := τ) osem c ∗ unscopedSems0 c ∗ G Xa Xb c) : sProp 𝕄)
    ⊢ |={Set.univ}=> bigSep Finset.univ (G' Xa Xb) :=
  ((bigSep_mono fun c _ => core_alloc Xa Xb c).trans (bigSep_fupd _ _)).trans (BI.fupd_mono (regroup Xa Xb))

end Setup

/-! ## The credits -/

theorem cell_dev {a b : Dev nD} {sm sm' : SemLoc sig} (h : (((a : Thread nD τ), sm) : GSem nD τ sig) = ((b : Thread nD τ), sm')) : a = b :=
  congrArg (fun g : GSem nD τ sig => g.1.1) h

/-- A tally at one cell of device `e d`, read at device `c`'s, `e` undone by `e'`. -/
theorem tally_dev (sm : SemLoc sig) (e e' : Dev nD → Dev nD) (h : ∀ c, e (e' c) = c) (h' : ∀ c, e' (e c) = c) (n : ℕ) (d c : Dev nD) :
    (tallyAt ((e d : Thread nD τ), sm) true n : CellTallies nD τ sig Bool) ((c : Thread nD τ), sm) true = if d = e' c then n else 0 := by
  rw [tallyAt_apply]
  by_cases hd : d = e' c
  · subst hd; rw [h, if_pos ⟨rfl, rfl⟩, if_pos rfl]
  · rw [if_neg (fun hh => hd (by rw [← h' d, ← cell_dev hh.1])), if_neg hd]
theorem tally_other {sm sm' : SemLoc sig} (hs : sm ≠ sm') (a c : Dev nD) (n : ℕ) (u : Bool) :
    (tallyAt ((a : Thread nD τ), sm) true n : CellTallies nD τ sig Bool) ((c : Thread nD τ), sm') u = 0 := by
  rw [tallyAt_apply, if_neg (fun hh => hs (congrArg Prod.snd hh.1).symm)]
theorem tally_false (g g' : GSem nD τ sig) (n : ℕ) : (tallyAt g true n : CellTallies nD τ sig Bool) g' false = 0 := by
  rw [tallyAt_apply, if_neg (fun hh => Bool.false_ne_true hh.2)]

theorem owed_apply (d : Dev nD) (g : GSem nD τ sig) (u : Bool) : O₀ d g u
    = ((tallyAt (r3Cell (p2 d)) true N : CellTallies nD τ sig Bool) g u + (tallyAt (r1Cell (p1 d)) true N : CellTallies nD τ sig Bool) g u)
      + (tallyAt (barCell (nxt d)) true 1 : CellTallies nD τ sig Bool) g u + (tallyAt (barCell (prv d)) true 1 : CellTallies nD τ sig Bool) g u := by
  unfold O₀ O₁ O₂
  simp only [Pi.add_apply, Finsupp.add_apply]
theorem owed_bar (d c : Dev nD) : O₀ d (barCell c) true = (if d = prv c then 1 else 0) + (if d = nxt c then 1 else 0) := by
  rw [owed_apply, tally_other r3_ne_bar, tally_other r1_ne_bar, tally_dev (.reg barS) nxt prv nxt_prv prv_nxt, tally_dev (.reg barS) prv nxt prv_nxt nxt_prv]
  omega
theorem owed_r1 (d c : Dev nD) : O₀ d (r1Cell c) true = if d = p1 c then N else 0 := by
  rw [owed_apply, tally_other r3_ne_r1, tally_other (sm := .reg barS) (Ne.symm r1_ne_bar), tally_other (sm := .reg barS) (Ne.symm r1_ne_bar),
    tally_dev (.dma r1S) p1 p1 p1_p1 p1_p1]
  omega
theorem owed_r3 (d c : Dev nD) : O₀ d (r3Cell c) true = if d = p2 c then N else 0 := by
  rw [owed_apply, tally_other (sm := .dma r1S) (Ne.symm r3_ne_r1), tally_other (sm := .reg barS) (Ne.symm r3_ne_bar), tally_other (sm := .reg barS) (Ne.symm r3_ne_bar),
    tally_dev (.dma r3S) p2 p2 p2_p2 p2_p2]
  omega
theorem owed_false (d : Dev nD) (g : GSem nD τ sig) : O₀ d g false = 0 := by
  rw [owed_apply, tally_false, tally_false, tally_false, tally_false]

theorem launch_of (g : GSem nD τ sig) (n : ℕ) (h : ∑ d, O₀ d g true = n) :
    tallyOn g (launchCredit (Pipeline.owing O₀) 0 g) = (tallyAt g true n : CellTallies nD τ sig Bool) := by
  unfold tallyAt; refine congrArg _ (Finsupp.ext fun u => ?_)
  rw [Pipeline.launchCredit_owing]
  cases u
  · rw [Finset.sum_congr rfl fun d _ => owed_false d g, Finset.sum_const_zero, Finsupp.single_eq_of_ne (by decide)]
  · rw [h, Finsupp.single_eq_same]
theorem launch_bar (c : Dev nD) : tallyOn (barCell c) (launchCredit (Pipeline.owing O₀) 0 (barCell c)) = (tallyAt (barCell c) true 2 : CellTallies nD τ sig Bool) :=
  launch_of _ _ (by
    rw [Finset.sum_congr rfl fun d _ => owed_bar d c, Finset.sum_add_distrib,
      Finset.sum_ite_eq' Finset.univ (prv c) fun _ => 1, Finset.sum_ite_eq' Finset.univ (nxt c) fun _ => 1, if_pos (Finset.mem_univ _), if_pos (Finset.mem_univ _)])
theorem launch_r1 (c : Dev nD) : tallyOn (r1Cell c) (launchCredit (Pipeline.owing O₀) 0 (r1Cell c)) = (tallyAt (r1Cell c) true N : CellTallies nD τ sig Bool) :=
  launch_of _ _ (by rw [Finset.sum_congr rfl fun d _ => owed_r1 d c, Finset.sum_ite_eq' Finset.univ (p1 c) fun _ => N, if_pos (Finset.mem_univ _)])
theorem launch_r3 (c : Dev nD) : tallyOn (r3Cell c) (launchCredit (Pipeline.owing O₀) 0 (r3Cell c)) = (tallyAt (r3Cell c) true N : CellTallies nD τ sig Bool) :=
  launch_of _ _ (by rw [Finset.sum_congr rfl fun d _ => owed_r3 d c, Finset.sum_ite_eq' Finset.univ (p2 c) fun _ => N, if_pos (Finset.mem_univ _)])

omit [FloatOps F] in
theorem creds_intro (c : Dev nD) : (Pipeline.launchCred O₀ c : sProp 𝕄) ⊢ creds c := by
  unfold Pipeline.launchCred creds
  rw [bigSep_univ_at _ (SemLoc.reg barS), launch_bar]
  refine sep_mono_right ?_
  rw [← launch_r1, ← launch_r3]
  have h1 : SemLoc.dma r1S ∈ (Finset.univ.erase (SemLoc.reg barS) : Finset (SemLoc sig)) := Finset.mem_erase.mpr ⟨r1_ne_bar, Finset.mem_univ _⟩
  rw [← Finset.insert_erase h1, bigSep_insert (Finset.notMem_erase _ _)]
  refine sep_mono_right ?_
  exact bigSep_elim (Finset.mem_erase.mpr ⟨r3_ne_r1, Finset.mem_erase.mpr ⟨r3_ne_bar, Finset.mem_univ _⟩⟩)

end Cert.KernelIdeal.Hand

end
-- ==== Proof.Launch.lean ====
/-
  The kernel launched on the four devices: what each device's pipeline is proved with, the body's obligation, and the run.
-/
module

public import proofs.«01_k».proof.Proof.Exchange
public import proofs.«01_k».proof.Proof.Split
public import proofs.«01_k».proof.Proof.Ghost
public import Idealize.ShloMosaic.Lib.Pipeline.CollectiveSegs
public import Idealize.ShloMosaic.Lib.Pipeline.FrameBody

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Bool (Elt F) ℕ UU ℕ

variable (m : (ℓ : Loc nD τ sig) → Buf (Elt F) ℓ) (ρ : Dev nD → PrngReg)

abbrev s₀ : MemSt nD τ sig (Elt F) := ⟨m, fun _ => 0, ρ⟩

/-! ## What each device computes -/

/-- The staged blocks, and the arrays of keys and values. -/
def gx (c : Dev nD) : Buf (Elt F) ((c : Thread nD τ).loc cc0_stg0_0) := (win0_0.blk (0 : Fin 1)).view.read (Elt F) (m ((c : Thread nD τ).loc main_arg0))
def gq (c : Dev nD) : Buf (Elt F) ((c : Thread nD τ).loc cc0_stg1_0) := (win0_1.blk (0 : Fin 1)).view.read (Elt F) (m ((c : Thread nD τ).loc main_arg1))
def go (c : Dev nD) : Buf (Elt F) ((c : Thread nD τ).loc cc0_stg2_0) := (win0_2.blk (0 : Fin 1)).view.read (Elt F) (m ((c : Thread nD τ).loc main_arg4))
abbrev gk (c : Dev nD) : Buf (Elt F) ((c : Thread nD τ).loc main_arg2) := m ((c : Thread nD τ).loc main_arg2)
abbrev gv (c : Dev nD) : Buf (Elt F) ((c : Thread nD τ).loc main_arg3) := m ((c : Thread nD τ).loc main_arg3)

/-- A device's own partial result, what it sends in the two exchanges, and its result. -/
def partM (c : Dev nD) : FVec F S256x1024 .f32 := part c (gx m c) (gq m c) (go m c) (gk m c) (gv m c)
def Xa (c : Dev nD) : FVec F S256x1024 .bf16 := sent (partM m c)
def Xb (c : Dev nD) : FVec F S256x1024 .bf16 := sent (plus (partM m c) (Xa m (p1 c)))
def outAt (c : Dev nD) : FVec F S256x1024 .f32 := outOf (partM m c) (Xa m (p1 c)) (Xb m (p2 c))

/-! ## The pipeline's proof data -/

/-- The arrays of keys and values, whole. -/
def kv (c : Dev nD) : sProp 𝕄 :=
  iprop((((c : Thread nD τ).loc main_arg2) ↦{fullShare} gk m c) ∗ (((c : Thread nD τ).loc main_arg3) ↦{fullShare} gv m c))

/-- The scratch buffers, whole at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

/-- What device `c`'s body starts from besides its scratch. -/
def start (c : Dev nD) : sProp 𝕄 := iprop(kv m c ∗ G' (Xa m) (Xb m) c ∗ creds c ∗ levAts L lv)

def Φ₀ (c : Dev nD) : sProp 𝕄 := iprop(start m c ∗ scratch c)
def Φ₁ (c : Dev nD) : sProp 𝕄 :=
  iprop((kv m c ∗ semVal (barCell c) 0) ∗ ((semVal (s0Cell c) 0 ∗ semVal (s2Cell c) 0 ∗ semVal (r1Cell c) 0 ∗ semVal (r3Cell c) 0) ∗ lsems c ∗ idle c) ∗ scratch c)

def dats (_ : Fin 1) (c : Dev nD) : Pipeline.Dat τ (Elt F) Bool ℕ UU ℕ cfg0 c where
  A w := (s₀ m ρ).mem ((cfg0.win w).arr.view.loc (c : Thread nD τ))
  after w _ := match w with
    | ⟨0, _⟩ => gx m c
    | ⟨1, _⟩ => gq m c
    | ⟨2, _⟩ => go m c
    | ⟨3, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem share_eq (c : Dev nD) (w : Fin cfg0.W) : (dats m ρ 0 c).share w = fullShare := by unfold Pipeline.Dat.share; split <;> rfl

omit [FloatOps F] in
theorem owns_whole_eq (c : Dev nD) (b : Ref sig .tc) (X : b.ty.Contents (Elt F)) :
    (owns (Ix := Bool) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body's obligation -/

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

omit [FloatOps F] in
theorem bigW (Φ : Fin cfg0.W → sProp 𝕄) : bigSep Finset.univ Φ = iprop(Φ (0 : Fin 4) ∗ Φ (1 : Fin 4) ∗ Φ (2 : Fin 4) ∗ Φ (3 : Fin 4)) := bigSep_W0 Φ

def bodyPre (c : Dev nD) : sProp 𝕄 :=
  iprop(Φ₀ m c ∗ (dats m ρ 0 c).owesAt false (t0_0 : Fin cfg0.N).castSucc
    ∗ (∃ d, stg c cc0_stg0_0 ((dats m ρ 0 c).before (0 : Fin 4) t0_0 d)) ∗ (∃ d, stg c cc0_stg1_0 ((dats m ρ 0 c).before (1 : Fin 4) t0_0 d))
    ∗ (∃ d, stg c cc0_stg2_0 ((dats m ρ 0 c).before (2 : Fin 4) t0_0 d)) ∗ (∃ d, stg c cc0_stg3_0 ((dats m ρ 0 c).before (3 : Fin 4) t0_0 d)))

def bodyPost (c : Dev nD) : sProp 𝕄 :=
  iprop(Φ₁ m c ∗ (dats m ρ 0 c).owesAt false (t0_0 : Fin cfg0.N).succ
    ∗ stg c cc0_stg0_0 (gx m c) ∗ stg c cc0_stg1_0 (gq m c) ∗ stg c cc0_stg2_0 (go m c) ∗ stg c cc0_stg3_0 (outAt m c))

theorem before_x (c : Dev nD) (d) : (dats m ρ 0 c).before (0 : Fin 4) t0_0 d = gx m c := by
  unfold Pipeline.Dat.before; rw [if_pos (fetch0_0 t0_0)]; rfl
theorem before_q (c : Dev nD) (d) : (dats m ρ 0 c).before (1 : Fin 4) t0_0 d = gq m c := by
  unfold Pipeline.Dat.before; rw [if_pos (fetch0_1 t0_0)]; rfl
theorem before_o (c : Dev nD) (d) : (dats m ρ 0 c).before (2 : Fin 4) t0_0 d = go m c := by
  unfold Pipeline.Dat.before; rw [if_pos (fetch0_2 t0_0)]; rfl

/-- What the body leaves is what the obligation asks. -/
theorem body_exit (c : Dev nD) (W' : Waits sig Bool) :
    iprop(bodyEnd c (gx m c) (gq m c) (go m c) (gk m c) (gv m c) (outAt m c) W' ∗ restK c (gk m c) ∗ restV c (gv m c) ∗ idle c) ⊢ bodyPost m ρ c := by
  unfold bodyEnd bodyPost Φ₁ scratch kv Pipeline.Dat.owesAt Pipeline.owesWithin
  rw [show (dats m ρ 0 c).owed (t0_0 : Fin cfg0.N).succ = 0 from rfl]
  iintro ⟨⟨⟨Hx, Hq, Ho, Hr⟩, Hk, Hv, Hs, ⟨Hb, Ha⟩, He, Hl, ⟨S0, S2, R1, R3, HB⟩, HO⟩, HrK, HrV, Hi⟩
  ihave Hk := (keys_eq (F := F) c (gk m c)).2 $$ [Hk HrK]
  · isplitl [Hk] <;> iassumption
  ihave Hv := (values_eq (F := F) c (gv m c)).2 $$ [Hv HrV]
  · isplitl [Hv] <;> iassumption
  ihave Hs := (stage_join (F := F) c) $$ Hs
  ihave He := (comm_join (F := F) c) $$ He
  isplitl [Hk Hv HB S0 S2 R1 R3 Hl Hi Hs Hb Ha He]
  · isplitl [Hk Hv HB]
    · isplitl [Hk Hv]
      · isplitl [Hk] <;> iassumption
      iexact HB
    isplitl [S0 S2 R1 R3 Hl Hi]
    · isplitl [S0 S2 R1 R3]
      · isplitl [S0]; · iexact S0
        isplitl [S2]; · iexact S2
        isplitl [R1] <;> iassumption
      isplitl [Hl] <;> iassumption
    isplitl [Hs]; · iexact Hs
    isplitl [Hb]; · iexact Hb
    isplitl [Ha]; · iexact Ha
    iexact He
  isplitl [HO]
  · iexists W'
    isplitr; · ipureintro; exact fun _ _ => Or.inl trivial
    iexact HO
  isplitl [Hx]
  · iexists _; isplitr; · (ipureintro; rfl)
    iexact Hx
  isplitl [Hq]
  · iexists _; isplitr; · (ipureintro; rfl)
    iexact Hq
  isplitl [Ho]
  · iexists _; isplitr; · (ipureintro; rfl)
    iexact Ho
  iexists _; isplitr; · (ipureintro; rfl)
  iexact Hr

theorem sound_body (c : Dev nD) :
    bodyPre m ρ c ⊢ wp frame (wpE (defs₀ (F := F)) 𝒱₀ (c : Thread nD τ) none) Set.univ theBody (fun _ => bodyPost m ρ c) := by
  unfold bodyPre Φ₀ start G' kv scratch Pipeline.Dat.owesAt Pipeline.owesWithin
  rw [show (dats m ρ 0 c).owed (t0_0 : Fin cfg0.N).castSucc = O₀ c from rfl]
  iintro ⟨⟨⟨⟨Hk, Hv⟩, ⟨⟨%K, Hg⟩, Hl, Hi⟩, Hc, Hlev⟩, ⟨%f0, Hs⟩, ⟨%fb, Hb⟩, ⟨%fa, Ha⟩, ⟨%fe, He⟩⟩, ⟨%W, %hW, HO⟩,
    ⟨%d0, %g0, %h0, Hx⟩, ⟨%d1, %g1, %h1, Hq⟩, ⟨%d2, %g2, %h2, Ho⟩, ⟨%d3, %g3, %h3, Hr⟩⟩
  obtain rfl : g0 = gx m c := h0.trans (before_x m ρ c d0)
  obtain rfl : g1 = gq m c := h1.trans (before_q m ρ c d1)
  obtain rfl : g2 = go m c := h2.trans (before_o m ρ c d2)
  ihave Hk := (keys_eq (F := F) c (gk m c)).1 $$ Hk
  icases Hk with ⟨⟨Hk1, Hk2, Hk3, Hk4⟩, HrK⟩
  ihave Hv := (values_eq (F := F) c (gv m c)).1 $$ Hv
  icases Hv with ⟨⟨Hv1, Hv2, Hv3, Hv4⟩, HrV⟩
  ihave Hs := (stage_split (F := F) c f0) $$ Hs
  icases Hs with ⟨Hs0, Hs1, Hs2, Hs3⟩
  ihave He := (comm_split (F := F) c fe) $$ He
  icases He with ⟨He0, He1, He2, He3⟩
  iapply (run_body (Xa m) (Xb m) K c (gx m c) (gq m c) (go m c) g3 (gk m c) (gv m c) f0 f0 f0 f0 fb fa fe fe W rfl rfl (fun _ => bodyPost m ρ c))
  isplitl [Hg]; · iexact Hg
  isplitl [Hc]; · iexact Hc
  isplitl [Hlev]; · iexact Hlev
  isplitl [Hx Hq Ho Hr Hk1 Hk2 Hk3 Hk4 Hv1 Hv2 Hv3 Hv4 Hs0 Hs1 Hs2 Hs3 Hb Ha He0 He2]
  · unfold bufs
    isplitl [Hx]; · iexact Hx
    isplitl [Hq]; · iexact Hq
    isplitl [Ho]; · iexact Ho
    isplitl [Hr]; · iexact Hr
    isplitl [Hk1]; · iexact Hk1
    isplitl [Hk2]; · iexact Hk2
    isplitl [Hk3]; · iexact Hk3
    isplitl [Hk4]; · iexact Hk4
    isplitl [Hv1]; · iexact Hv1
    isplitl [Hv2]; · iexact Hv2
    isplitl [Hv3]; · iexact Hv3
    isplitl [Hv4]; · iexact Hv4
    isplitl [Hs0]; · iexact Hs0
    isplitl [Hs1]; · iexact Hs1
    isplitl [Hs2]; · iexact Hs2
    isplitl [Hs3]; · iexact Hs3
    isplitl [Hb]; · iexact Hb
    isplitl [Ha]; · iexact Ha
    isplitl [He0] <;> iassumption
  isplitl [He1]; · iexact He1
  isplitl [He3]; · iexact He3
  isplitl [Hl]; · iexact Hl
  isplitl [HO]; · iexact HO
  iintro %W' H
  iapply (body_exit m ρ c W')
  isplitl [H]; · iexact H
  isplitl [HrK]; · iexact HrK
  isplitl [HrV] <;> iassumption

theorem row : defs₀ (F := F) .tc cfg0.body (cfg0.bodyArgs t0_0 (cfg0.slots t0_0)) = theBody := by unfold defs₀; rw [Defs.onTc_tc]

theorem body_obligation (c : Dev nD) : Pipeline.BodyObligation (dats (F := F) m ρ 0 c) (defs₀ (F := F)) 𝒱₀ false Set.univ := fun t => by
  rw [fin_N0 t]
  rw [bigW, bigW]
  simp only [owns_whole_eq]
  rw [row]
  exact triple_restated (sound_body m ρ c) rfl .rfl fun _ => .rfl

/-! ## The launch's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (Xa m) (Xb m) c)
      ⊢ |={Set.univ}=> iprop(start m c ∗ emp) := by
  rw [Pipeline.unscopedRestP_none, show (Pipeline.unscopedRest cfg0.spec c (fun b => m ((c : Thread nD τ).loc b)) : sProp 𝕄) = kv m c from unscopedRest0_eq c _]
  iintro ⟨Hkv, Hlev, Hcr, -, HG⟩
  ihave Hc := (creds_intro (F := F) c) $$ Hcr
  imodintro
  unfold start
  isplitl
  · isplitl [Hkv]; · iexact Hkv
    isplitl [HG]; · iexact HG
    isplitl [Hc] <;> iassumption
  · iempintro

theorem scratch_eq (c : Dev nD) : (Pipeline.scopedRest cfg0.spec c : sProp 𝕄) = scratch c := scopedRest0_eq c

theorem enter (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scratch_eq]
  unfold Φ₀
  iintro ⟨Hs, -, Hr⟩
  isplitl [Hs] <;> iassumption

theorem leave (c : Dev nD) :
    (dats m ρ 0 c).Φ (Fin.last cfg0.N) ⊢ iprop((kv m c ∗ unscopedSems0 c) ∗ Pipeline.ownSems0 osem c ∗ Pipeline.scopedRest cfg0.spec c) := by
  rw [show (dats m ρ 0 c).Φ (Fin.last cfg0.N) = Φ₁ m c from rfl, scratch_eq, unscopedSems0_eq]
  unfold Φ₁
  iintro ⟨Hy, Hz, Hr⟩
  isplitl [Hy]; · iexact Hy
  isplitl [Hz]; · iapply (ownSems0_join (F := F) c); iexact Hz
  iexact Hr

theorem waits (c : Dev nD) : (levAts L lv : sProp 𝕄) ⊢ Pipeline.cellsWaits cfgs (dats m ρ) false 0 c :=
  Pipeline.cellsWaits_intro cfgs (dats m ρ) false 0 c fun w s t =>
    mayWait_local c _ _ (by
      rcases t with ⟨_ | _, ht⟩
      · exact fun g u h => O₀_pos h
      · exact fun g u h => absurd h (Nat.lt_irrefl 0))

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg2) = m ((c : Thread nD τ).loc main_arg2) ∧ r.2.mem ((c : Thread nD τ).loc main_arg3) = m ((c : Thread nD τ).loc main_arg3)

theorem read_end (c : Dev nD) (s' : Phys nD τ sig (Elt F)) :
    iprop((kv m c ∗ unscopedSems0 c) ∗ emp ∗ SI s')
      ⊢ |={Set.univ}=> iprop(⌜(∀ sm : SemLoc sig, sm.isScoped .tc = false → s'.mem.sem ((c.tc : Thread nD τ), sm) = 0)
        ∧ s'.mem.mem ((c : Thread nD τ).loc main_arg2) = m ((c : Thread nD τ).loc main_arg2)
        ∧ s'.mem.mem ((c : Thread nD τ).loc main_arg3) = m ((c : Thread nD τ).loc main_arg3)⌝ ∗ (SI s' : sProp 𝕄)) := by
  unfold kv
  iintro ⟨⟨⟨Hk, Hv⟩, Hu⟩, -, HSI⟩
  icombine HSI Hk gives %h1
  icombine HSI Hv gives %h2
  imod (Pipeline.unscopedSems0_read (X := unscopedSems0 c) (c := c) fupd_intro s') $$ [Hu HSI] with ⟨%h3, HSI⟩
  · isplitl [Hu] <;> iassumption
  imodintro
  isplitr
  · ipureintro; exact ⟨h3, Buf.eq_of_forall_mem_univ h1, Buf.eq_of_forall_mem_univ h2⟩
  iexact HSI

set_option maxRecDepth 8000 in
/-- On four devices, for any float values, from any memory with zero counters: every weakly fair execution of the kernel
    ends, every device's result array at the computed contents, the arguments as they were and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) false cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (Xa m) (Xb m)) (G' := G' (Xa m) (Xb m)) (u₀ := u₀)
    (hu₀ := by
      unfold u₀
      iintro Hu
      ihave H := (u₀_split _ _) $$ Hu
      icases H with ⟨HP, HX⟩
      imod (fund (Xa m) (Xb m)) $$ HX with HG
      imodintro
      isplitl [HP] <;> iassumption)
    (hglob := glob (Xa m) (Xb m))
    (hA := fun _ _ => rfl) (hpf := fun _ k => k.elim0)
    (X := start m) (Y := fun c => iprop(kv m c ∗ unscopedSems0 c)) (Z := fun _ => iprop(emp))
    (hX := start_intro m ρ) (hin := enter m ρ) (hout := leave m ρ)
    (QY := fun c s => (∀ sm : SemLoc sig, sm.isScoped .tc = false → s.sem ((c.tc : Thread nD τ), sm) = 0)
      ∧ s.mem ((c : Thread nD τ).loc main_arg2) = m ((c : Thread nD τ).loc main_arg2) ∧ s.mem ((c : Thread nD τ).loc main_arg3) = m ((c : Thread nD τ).loc main_arg3))
    (hY := read_end m)
    (hQ := fun _ h hs => ⟨fun c => ⟨fun w => (h c).1 w, (h c).2.2.2⟩, sem_eq_zero hs fun c => (h c).2.2.1⟩)

end Cert.KernelIdeal.Hand

end
-- ==== Proof.Frames.lean ====
/-
  The frames: what the run leaves of the arguments and of the counters, with the computed contents dropped.
-/
module

public import proofs.«01_k».proof.Defs
public import proofs.«01_k».proof.Proof.Gen.Kernel
public import proofs.«01_k».proof.Proof.Launch
public import proofs.«01_k».proof.Proof.Gen.ReferenceIdeal.Run

@[expose] public section

noncomputable section

namespace Cert.KernelIdeal.Hand

open Cert.KernelIdeal Cert.KernelIdeal.Gen

open Idealize.ShloMosaic
open Idealize.ShloMosaic.TcCoe
open Idealize.SL.Sem

variable {F : FTy → Type} [FloatOps F]
variable {m : (ℓ : Loc nD τ sig) → Buf (Elt F) ℓ} {ρ : Dev nD → PrngReg}

/-- The five argument arrays of a device as they were. -/
theorem args_kept {r : PUnit × MemSt nD τ sig (Elt F)} (h : QC m ρ r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨((h c).1 0).trans ((dats m ρ 0 c).arrAt_in 0 rfl _), ((h c).1 1).trans ((dats m ρ 0 c).arrAt_in 1 rfl _), (h c).2.1, (h c).2.2,
    ((h c).1 2).trans ((dats m ρ 0 c).arrAt_in 2 rfl _)⟩

/-- A device's result array at what the device computes. -/
theorem result_eq {r : PUnit × MemSt nD τ sig (Elt F)} (h : QC m ρ r) (c : Dev nD) :
    r.2.mem ((c.tc : Thread nD τ).loc main_v1) = (dats m ρ 0 c).arrAt 3 cfg0.N :=
  (h c).1 3

/-- Over any float values: the run ends with the arguments as they were and every counter at zero. -/
theorem frame_any (m : (ℓ : Loc nD τ sig) → Buf (Elt F) ℓ) (ρ : Dev nD → PrngReg) :
    θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => args_kept h.1 c, h.2⟩) (run_main m ρ)

theorem frame_kernelIdeal : Cert.quiescent_KernelIdeal := fun m ρ _ => frame_any (F := Ideal) m ρ

/-- The kernel's own text is the ideal kernel's: the two body tables are one. -/
theorem bodies_eq : Cert.Kernel.defs₀ (F := F) = Cert.KernelIdeal.defs₀ (F := F) := by
  refine congrArg Defs.onTc (funext fun l => funext fun x => ?_)
  match l, x with
  | 0, (t, s) => rfl

theorem defs_eq : Cert.Kernel.defs (F := F) = Cert.KernelIdeal.defs (F := F) := congrArg (Pipeline.defs Cert.KernelIdeal.pcfgs) bodies_eq

/-- So the kernel's frame is the same run at the machine's words. -/
theorem frame_kernel : Cert.quiescent_Kernel := fun m ρ _ => by
  have h := frame_any (F := Bits) m ρ
  rw [← defs_eq] at h
  exact h

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.KernelIdeal.Hand

end
-- ==== Proof.Blocks.lean ====
/-
  What the kernel's loads of keys and values read: the staged copies of a device's blocks, cast and laid side by side by
  head, read back one head at a time.
-/
module

public import proofs.«01_k».proof.Proof.Exchange
public import Idealize.ShloMosaic.Lib.Pointwise
public import Idealize.ShloMosaic.Lib.Writes
public import Idealize.ShloMosaic.Lib.Pipeline.ReadBack

@[expose] public section

set_option maxRecDepth 16384

noncomputable section

namespace Cert.KernelIdeal.Hand

open Cert.KernelIdeal Cert.KernelIdeal.Gen

open Idealize.ShloMosaic
open Idealize.ShloMosaic.TcCoe

variable (c : Dev nD) (gk : Buf (Elt Ideal) ((c : Thread nD τ).loc main_arg2)) (gv : Buf (Elt Ideal) ((c : Thread nD τ).loc main_arg3))

/-- Entry `(x, e)` of head `h` of device `c` in the chunk `ch` of an array of keys or values. -/
def at4 (g : S1x4096x32x128.Idx → EReal) (ch : Fin 4) (h : Fin 8) (x : Fin 1024) (e : Fin 128) : EReal :=
  g (ix4 0 ⟨1024 * ch.val + x.val, by omega⟩ ⟨8 * c.val + h.val, by have := c.isLt; simp only [nD] at this; omega⟩ e)

/-- A whole piece written last is what is there. -/
theorem canon_whole {s : Shape} {e : EltTy} {Val : EltTy → Type} [∀ e, Nonempty (Val e)] (w : s.Idx → Val e) (L : List (View.Piece Val s e)) :
    View.canon (⟨Rect.whole s, w⟩ :: L) = w :=
  funext fun y => (congrArg (View.canon _) (Rect.emb_eq_of_coords (Rect.whole s) y y fun a => by simp [Rect.whole]).symm).trans (View.canon_cons_emb (Rect.whole s) w L y)

theorem read_newest {sig : RefSig} {κ : Kind} {sp : Space} {s : Shape} {e : EltTy} {Val : EltTy → Type} [∀ e, Nonempty (Val e)] (v : View sig κ sp s e)
    (w : s.Idx → Val e) (L : List (View.Piece Val s e)) : v.read Val (v.writes Val v.junk (⟨Rect.whole s, w⟩ :: L)) = w :=
  (View.read_writes_junk_eq_canon v _).trans (canon_whole w L)

/-- What a copy of a device's block of an array reads. -/
theorem src_at (g : S1x4096x32x128.Idx → EReal) (ch : Fin 4) (off : Fin 4 → ℕ) (hoff : off = ![0, 1024 * ch.val, 8 * c.val, 0]) (inb) (x : Fin 1024) (h : Fin 8) (e : Fin 128) :
    shapeCast (s := S1x1024x8x128) S1024x8x128 (fun y => g ((Rect.unit (s := S1x4096x32x128) off S1x1024x8x128.size inb).emb y)) shapeCasts_S1x1024x8x128_S1024x8x128 (ix3 x h e)
      = at4 c g ch h x e := by
  subst hoff
  pointwise []
  unfold at4
  refine congrArg g (funext fun a => Fin.ext ?_)
  fin_cases a <;> simp [Rect.emb, Rect.unit] <;> rfl

/-- A staged block, read at an index of the slot it was copied into. -/
theorem staged {v : Vec Ideal S1x1024x8x128 .f32} {w : S1024x8x128.Idx → EReal} {r : EReal} (x : Fin 1024) (h : Fin 8) (e : Fin 128)
    (hv : shapeCast (s := S1x1024x8x128) S1024x8x128 v shapeCasts_S1x1024x8x128_S1024x8x128 = w) (hw : w (ix3 x h e) = r) : v (ix4 0 x h e) = r := by
  rw [← hw, ← hv]
  pointwise []

theorem stage_K0 (x : Fin 1024) (h : Fin 8) (e : Fin 128) : run₁.sl.v54 c gk (ix4 0 x h e) = at4 c gk 0 h x e := by
  have h0 : run₁.sl.dma0 c gk (ix3 x h e) = at4 c gk 0 h x e := src_at c gk 0 _ (k0_off1_eq c) (k0_off1_inb c) x h e
  refine staged x h e ?_ h0
  refine Eq.trans (b := ss0.view.read (Elt Ideal) (ss0.view.writes (Elt Ideal) ss0.view.junk [⟨Rect.whole S1024x8x128, run₁.sl.dma0 c gk⟩])) rfl ?_
  exact read_newest ss0.view _ _
theorem stage_K1 (x : Fin 1024) (h : Fin 8) (e : Fin 128) : run₁.sl.v180 c gk (ix4 0 x h e) = at4 c gk 1 h x e := by
  have h0 : run₁.sl.dma0_2 c gk (ix3 x h e) = at4 c gk 1 h x e := src_at c gk 1 _ (k0_off2_eq c) (k0_off2_inb c) x h e
  refine staged x h e ?_ h0
  refine Eq.trans (b := ss2.view.read (Elt Ideal) (ss2.view.writes (Elt Ideal) ss2.view.junk [⟨Rect.whole S1024x8x128, run₁.sl.dma0_2 c gk⟩])) rfl ?_
  exact read_newest ss2.view _ _
theorem stage_K2 (x : Fin 1024) (h : Fin 8) (e : Fin 128) : run₁.sl.v322 c gk (ix4 0 x h e) = at4 c gk 2 h x e := by
  have h0 : run₁.sl.dma8 c gk (ix3 x h e) = at4 c gk 2 h x e := src_at c gk 2 _ (k0_off3_eq c) (k0_off3_inb c) x h e
  refine staged x h e ?_ h0
  refine Eq.trans (b := ss0.view.read (Elt Ideal) (ss0.view.writes (Elt Ideal) ss0.view.junk [⟨Rect.whole S1024x8x128, run₁.sl.dma8 c gk⟩, ⟨Rect.whole S1024x8x128, run₁.sl.dma0 c gk⟩])) rfl ?_
  exact read_newest ss0.view _ _
theorem stage_K3 (x : Fin 1024) (h : Fin 8) (e : Fin 128) : run₁.sl.v452 c gk (ix4 0 x h e) = at4 c gk 3 h x e := by
  have h0 : run₁.sl.dma30 c gk (ix3 x h e) = at4 c gk 3 h x e := src_at c gk 3 _ (k0_off4_eq c) (k0_off4_inb c) x h e
  refine staged x h e ?_ h0
  refine Eq.trans (b := ss2.view.read (Elt Ideal) (ss2.view.writes (Elt Ideal) ss2.view.junk [⟨Rect.whole S1024x8x128, run₁.sl.dma30 c gk⟩, ⟨Rect.whole S1024x8x128, run₁.sl.dma0_2 c gk⟩])) rfl ?_
  exact read_newest ss2.view _ _
theorem stage_V0 (x : Fin 1024) (h : Fin 8) (e : Fin 128) : run₁.sl.v67 c gv (ix4 0 x h e) = at4 c gv 0 h x e := by
  have h0 : run₁.sl.dma0_1 c gv (ix3 x h e) = at4 c gv 0 h x e := src_at c gv 0 _ (k0_off1_eq c) (k0_off1_inb c) x h e
  refine staged x h e ?_ h0
  refine Eq.trans (b := ss1.view.read (Elt Ideal) (ss1.view.writes (Elt Ideal) ss1.view.junk [⟨Rect.whole S1024x8x128, run₁.sl.dma0_1 c gv⟩])) rfl ?_
  exact read_newest ss1.view _ _
theorem stage_V1 (x : Fin 1024) (h : Fin 8) (e : Fin 128) : run₁.sl.v193 c gv (ix4 0 x h e) = at4 c gv 1 h x e := by
  have h0 : run₁.sl.dma0_3 c gv (ix3 x h e) = at4 c gv 1 h x e := src_at c gv 1 _ (k0_off2_eq c) (k0_off2_inb c) x h e
  refine staged x h e ?_ h0
  refine Eq.trans (b := ss3.view.read (Elt Ideal) (ss3.view.writes (Elt Ideal) ss3.view.junk [⟨Rect.whole S1024x8x128, run₁.sl.dma0_3 c gv⟩])) rfl ?_
  exact read_newest ss3.view _ _
theorem stage_V2 (x : Fin 1024) (h : Fin 8) (e : Fin 128) : run₁.sl.v335 c gv (ix4 0 x h e) = at4 c gv 2 h x e := by
  have h0 : run₁.sl.dma8_1 c gv (ix3 x h e) = at4 c gv 2 h x e := src_at c gv 2 _ (k0_off3_eq c) (k0_off3_inb c) x h e
  refine staged x h e ?_ h0
  refine Eq.trans (b := ss1.view.read (Elt Ideal) (ss1.view.writes (Elt Ideal) ss1.view.junk [⟨Rect.whole S1024x8x128, run₁.sl.dma8_1 c gv⟩, ⟨Rect.whole S1024x8x128, run₁.sl.dma0_1 c gv⟩])) rfl ?_
  exact read_newest ss1.view _ _
theorem stage_V3 (x : Fin 1024) (h : Fin 8) (e : Fin 128) : run₁.sl.v465 c gv (ix4 0 x h e) = at4 c gv 3 h x e := by
  have h0 : run₁.sl.dma30_1 c gv (ix3 x h e) = at4 c gv 3 h x e := src_at c gv 3 _ (k0_off4_eq c) (k0_off4_inb c) x h e
  refine staged x h e ?_ h0
  refine Eq.trans (b := ss3.view.read (Elt Ideal) (ss3.view.writes (Elt Ideal) ss3.view.junk [⟨Rect.whole S1024x8x128, run₁.sl.dma30_1 c gv⟩, ⟨Rect.whole S1024x8x128, run₁.sl.dma0_3 c gv⟩])) rfl ?_
  exact read_newest ss3.view _ _

/-- A head of the keys, read back from the pair the chunk left. -/
theorem read_keys (w1 w0 : S1x1024x1024.Idx → EReal) (T : List (View.Piece (Elt Ideal) S2x1024x1024 .bf16)) (h : Fin 8) (o : ℕ) (ho : o = 128 * h.val) (inb1 inb0 inb) (x : Fin 1024) (e : Fin 128) :
    (bM : Memref sig .tc .vmem S2x1024x1024 .bf16).view.readCov
      (⟨Rect.unit (s := S2x1024x1024) ![1, 0, 0] S1x1024x1024.size inb1, w1⟩ :: ⟨Rect.unit (s := S2x1024x1024) ![0, 0, 0] S1x1024x1024.size inb0, w0⟩ :: T)
      (Rect.unit (s := S2x1024x1024) ![0, 0, o] S1x1024x128.size inb).toLoadRect (ix3 0 x e) = w0 (ix3 0 x ⟨128 * h.val + e.val, by omega⟩) := by
  subst ho
  refine (congrFun (View.readCov_eq_canon' _ _ _) _).trans ?_
  have hj : (Rect.unit (s := S2x1024x1024) ![0, 0, 128 * h.val] S1x1024x128.size inb).toLoadRect.idx (ix3 0 x e)
      = (Rect.unit (s := S2x1024x1024) ![0, 0, 0] S1x1024x1024.size inb0).emb (ix3 0 x ⟨128 * h.val + e.val, by omega⟩) :=
    (Rect.emb_eq_of_coords _ _ _ fun a => by fin_cases a <;> simp [Rect.unit, LoadRect.idx] <;> rfl).symm
  rw [hj, View.canon_cons_of_not_mem, View.canon_cons_emb]
  refine Rect.not_mem_set_of_axis _ _ (0 : Fin 3) 1 1 rfl rfl rfl (Or.inl ?_)
  simp [Rect.emb, Rect.unit]

/-- A head of the values, read back from the pair the chunk left. -/
theorem read_vals (w1 : S1x1024x1024.Idx → EReal) (T : List (View.Piece (Elt Ideal) S2x1024x1024 .bf16)) (h : Fin 8) (o : ℕ) (ho : o = 128 * h.val) (inb1 inb) (x : Fin 1024) (e : Fin 128) :
    (bM : Memref sig .tc .vmem S2x1024x1024 .bf16).view.readCov
      (⟨Rect.unit (s := S2x1024x1024) ![1, 0, 0] S1x1024x1024.size inb1, w1⟩ :: T)
      (Rect.unit (s := S2x1024x1024) ![1, 0, o] S1x1024x128.size inb).toLoadRect (ix3 0 x e) = w1 (ix3 0 x ⟨128 * h.val + e.val, by omega⟩) := by
  subst ho
  refine (congrFun (View.readCov_eq_canon' _ _ _) _).trans ?_
  have hj : (Rect.unit (s := S2x1024x1024) ![1, 0, 128 * h.val] S1x1024x128.size inb).toLoadRect.idx (ix3 0 x e)
      = (Rect.unit (s := S2x1024x1024) ![1, 0, 0] S1x1024x1024.size inb1).emb (ix3 0 x ⟨128 * h.val + e.val, by omega⟩) :=
    (Rect.emb_eq_of_coords _ _ _ fun a => by fin_cases a <;> simp [Rect.unit, LoadRect.idx] <;> rfl).symm
  rw [hj, View.canon_cons_emb]

/-- A staged block, its heads laid side by side. -/
theorem pay3_at (v : Vec Ideal S1x1024x8x128 .f32) (x : Fin 1024) (h : Fin 8) (e : Fin 128) :
    k0_pay3 (F := Ideal) v (ix3 0 x ⟨128 * h.val + e.val, by omega⟩) = v (ix4 0 x h e) := by
  pointwise [k0_pay3]

/-! ### The heads of chunk 0 -/

theorem key_0_0 (x : Fin 1024) (e : Fin 128) : run₁.sl.v87 c gk gv (ix3 0 x e) = at4 c gk 0 0 x e :=
  (read_keys _ _ _ 0 _ rfl _ _ _ x e).trans ((pay3_at _ x 0 e).trans (stage_K0 c gk x 0 e))
theorem val_0_0 (x : Fin 1024) (e : Fin 128) : run₁.sl.v94 c gk gv (ix3 0 x e) = at4 c gv 0 0 x e :=
  (read_vals _ _ 0 _ rfl _ _ x e).trans ((pay3_at _ x 0 e).trans (stage_V0 c gv x 0 e))
theorem key_0_1 (x : Fin 1024) (e : Fin 128) : run₁.sl.v98 c gk gv (ix3 0 x e) = at4 c gk 0 1 x e :=
  (read_keys _ _ _ 1 _ rfl _ _ _ x e).trans ((pay3_at _ x 1 e).trans (stage_K0 c gk x 1 e))
theorem val_0_1 (x : Fin 1024) (e : Fin 128) : run₁.sl.v105 c gk gv (ix3 0 x e) = at4 c gv 0 1 x e :=
  (read_vals _ _ 1 _ rfl _ _ x e).trans ((pay3_at _ x 1 e).trans (stage_V0 c gv x 1 e))
theorem key_0_2 (x : Fin 1024) (e : Fin 128) : run₁.sl.v109 c gk gv (ix3 0 x e) = at4 c gk 0 2 x e :=
  (read_keys _ _ _ 2 _ rfl _ _ _ x e).trans ((pay3_at _ x 2 e).trans (stage_K0 c gk x 2 e))
theorem val_0_2 (x : Fin 1024) (e : Fin 128) : run₁.sl.v116 c gk gv (ix3 0 x e) = at4 c gv 0 2 x e :=
  (read_vals _ _ 2 _ rfl _ _ x e).trans ((pay3_at _ x 2 e).trans (stage_V0 c gv x 2 e))
theorem key_0_3 (x : Fin 1024) (e : Fin 128) : run₁.sl.v120 c gk gv (ix3 0 x e) = at4 c gk 0 3 x e :=
  (read_keys _ _ _ 3 _ rfl _ _ _ x e).trans ((pay3_at _ x 3 e).trans (stage_K0 c gk x 3 e))
theorem val_0_3 (x : Fin 1024) (e : Fin 128) : run₁.sl.v127 c gk gv (ix3 0 x e) = at4 c gv 0 3 x e :=
  (read_vals _ _ 3 _ rfl _ _ x e).trans ((pay3_at _ x 3 e).trans (stage_V0 c gv x 3 e))
theorem key_0_4 (x : Fin 1024) (e : Fin 128) : run₁.sl.v131 c gk gv (ix3 0 x e) = at4 c gk 0 4 x e :=
  (read_keys _ _ _ 4 _ rfl _ _ _ x e).trans ((pay3_at _ x 4 e).trans (stage_K0 c gk x 4 e))
theorem val_0_4 (x : Fin 1024) (e : Fin 128) : run₁.sl.v138 c gk gv (ix3 0 x e) = at4 c gv 0 4 x e :=
  (read_vals _ _ 4 _ rfl _ _ x e).trans ((pay3_at _ x 4 e).trans (stage_V0 c gv x 4 e))
theorem key_0_5 (x : Fin 1024) (e : Fin 128) : run₁.sl.v142 c gk gv (ix3 0 x e) = at4 c gk 0 5 x e :=
  (read_keys _ _ _ 5 _ rfl _ _ _ x e).trans ((pay3_at _ x 5 e).trans (stage_K0 c gk x 5 e))
theorem val_0_5 (x : Fin 1024) (e : Fin 128) : run₁.sl.v149 c gk gv (ix3 0 x e) = at4 c gv 0 5 x e :=
  (read_vals _ _ 5 _ rfl _ _ x e).trans ((pay3_at _ x 5 e).trans (stage_V0 c gv x 5 e))
theorem key_0_6 (x : Fin 1024) (e : Fin 128) : run₁.sl.v153 c gk gv (ix3 0 x e) = at4 c gk 0 6 x e :=
  (read_keys _ _ _ 6 _ rfl _ _ _ x e).trans ((pay3_at _ x 6 e).trans (stage_K0 c gk x 6 e))
theorem val_0_6 (x : Fin 1024) (e : Fin 128) : run₁.sl.v160 c gk gv (ix3 0 x e) = at4 c gv 0 6 x e :=
  (read_vals _ _ 6 _ rfl _ _ x e).trans ((pay3_at _ x 6 e).trans (stage_V0 c gv x 6 e))
theorem key_0_7 (x : Fin 1024) (e : Fin 128) : run₁.sl.v164 c gk gv (ix3 0 x e) = at4 c gk 0 7 x e :=
  (read_keys _ _ _ 7 _ rfl _ _ _ x e).trans ((pay3_at _ x 7 e).trans (stage_K0 c gk x 7 e))
theorem val_0_7 (x : Fin 1024) (e : Fin 128) : run₁.sl.v171 c gk gv (ix3 0 x e) = at4 c gv 0 7 x e :=
  (read_vals _ _ 7 _ rfl _ _ x e).trans ((pay3_at _ x 7 e).trans (stage_V0 c gv x 7 e))

/-! ### The heads of chunk 1 -/

theorem key_1_0 (x : Fin 1024) (e : Fin 128) : run₁.sl.v213 c gk gv (ix3 0 x e) = at4 c gk 1 0 x e :=
  (read_keys _ _ _ 0 _ rfl _ _ _ x e).trans ((pay3_at _ x 0 e).trans (stage_K1 c gk x 0 e))
theorem val_1_0 (x : Fin 1024) (e : Fin 128) : run₁.sl.v220 c gk gv (ix3 0 x e) = at4 c gv 1 0 x e :=
  (read_vals _ _ 0 _ rfl _ _ x e).trans ((pay3_at _ x 0 e).trans (stage_V1 c gv x 0 e))
theorem key_1_1 (x : Fin 1024) (e : Fin 128) : run₁.sl.v226 c gk gv (ix3 0 x e) = at4 c gk 1 1 x e :=
  (read_keys _ _ _ 1 _ rfl _ _ _ x e).trans ((pay3_at _ x 1 e).trans (stage_K1 c gk x 1 e))
theorem val_1_1 (x : Fin 1024) (e : Fin 128) : run₁.sl.v233 c gk gv (ix3 0 x e) = at4 c gv 1 1 x e :=
  (read_vals _ _ 1 _ rfl _ _ x e).trans ((pay3_at _ x 1 e).trans (stage_V1 c gv x 1 e))
theorem key_1_2 (x : Fin 1024) (e : Fin 128) : run₁.sl.v239 c gk gv (ix3 0 x e) = at4 c gk 1 2 x e :=
  (read_keys _ _ _ 2 _ rfl _ _ _ x e).trans ((pay3_at _ x 2 e).trans (stage_K1 c gk x 2 e))
theorem val_1_2 (x : Fin 1024) (e : Fin 128) : run₁.sl.v246 c gk gv (ix3 0 x e) = at4 c gv 1 2 x e :=
  (read_vals _ _ 2 _ rfl _ _ x e).trans ((pay3_at _ x 2 e).trans (stage_V1 c gv x 2 e))
theorem key_1_3 (x : Fin 1024) (e : Fin 128) : run₁.sl.v252 c gk gv (ix3 0 x e) = at4 c gk 1 3 x e :=
  (read_keys _ _ _ 3 _ rfl _ _ _ x e).trans ((pay3_at _ x 3 e).trans (stage_K1 c gk x 3 e))
theorem val_1_3 (x : Fin 1024) (e : Fin 128) : run₁.sl.v259 c gk gv (ix3 0 x e) = at4 c gv 1 3 x e :=
  (read_vals _ _ 3 _ rfl _ _ x e).trans ((pay3_at _ x 3 e).trans (stage_V1 c gv x 3 e))
theorem key_1_4 (x : Fin 1024) (e : Fin 128) : run₁.sl.v265 c gk gv (ix3 0 x e) = at4 c gk 1 4 x e :=
  (read_keys _ _ _ 4 _ rfl _ _ _ x e).trans ((pay3_at _ x 4 e).trans (stage_K1 c gk x 4 e))
theorem val_1_4 (x : Fin 1024) (e : Fin 128) : run₁.sl.v272 c gk gv (ix3 0 x e) = at4 c gv 1 4 x e :=
  (read_vals _ _ 4 _ rfl _ _ x e).trans ((pay3_at _ x 4 e).trans (stage_V1 c gv x 4 e))
theorem key_1_5 (x : Fin 1024) (e : Fin 128) : run₁.sl.v278 c gk gv (ix3 0 x e) = at4 c gk 1 5 x e :=
  (read_keys _ _ _ 5 _ rfl _ _ _ x e).trans ((pay3_at _ x 5 e).trans (stage_K1 c gk x 5 e))
theorem val_1_5 (x : Fin 1024) (e : Fin 128) : run₁.sl.v285 c gk gv (ix3 0 x e) = at4 c gv 1 5 x e :=
  (read_vals _ _ 5 _ rfl _ _ x e).trans ((pay3_at _ x 5 e).trans (stage_V1 c gv x 5 e))
theorem key_1_6 (x : Fin 1024) (e : Fin 128) : run₁.sl.v291 c gk gv (ix3 0 x e) = at4 c gk 1 6 x e :=
  (read_keys _ _ _ 6 _ rfl _ _ _ x e).trans ((pay3_at _ x 6 e).trans (stage_K1 c gk x 6 e))
theorem val_1_6 (x : Fin 1024) (e : Fin 128) : run₁.sl.v298 c gk gv (ix3 0 x e) = at4 c gv 1 6 x e :=
  (read_vals _ _ 6 _ rfl _ _ x e).trans ((pay3_at _ x 6 e).trans (stage_V1 c gv x 6 e))
theorem key_1_7 (x : Fin 1024) (e : Fin 128) : run₁.sl.v304 c gk gv (ix3 0 x e) = at4 c gk 1 7 x e :=
  (read_keys _ _ _ 7 _ rfl _ _ _ x e).trans ((pay3_at _ x 7 e).trans (stage_K1 c gk x 7 e))
theorem val_1_7 (x : Fin 1024) (e : Fin 128) : run₁.sl.v311 c gk gv (ix3 0 x e) = at4 c gv 1 7 x e :=
  (read_vals _ _ 7 _ rfl _ _ x e).trans ((pay3_at _ x 7 e).trans (stage_V1 c gv x 7 e))

/-! ### The heads of chunk 2 -/

theorem key_2_0 (x : Fin 1024) (e : Fin 128) : run₁.sl.v343 c gk gv (ix3 0 x e) = at4 c gk 2 0 x e :=
  (read_keys _ _ _ 0 _ rfl _ _ _ x e).trans ((pay3_at _ x 0 e).trans (stage_K2 c gk x 0 e))
theorem val_2_0 (x : Fin 1024) (e : Fin 128) : run₁.sl.v350 c gk gv (ix3 0 x e) = at4 c gv 2 0 x e :=
  (read_vals _ _ 0 _ rfl _ _ x e).trans ((pay3_at _ x 0 e).trans (stage_V2 c gv x 0 e))
theorem key_2_1 (x : Fin 1024) (e : Fin 128) : run₁.sl.v356 c gk gv (ix3 0 x e) = at4 c gk 2 1 x e :=
  (read_keys _ _ _ 1 _ rfl _ _ _ x e).trans ((pay3_at _ x 1 e).trans (stage_K2 c gk x 1 e))
theorem val_2_1 (x : Fin 1024) (e : Fin 128) : run₁.sl.v363 c gk gv (ix3 0 x e) = at4 c gv 2 1 x e :=
  (read_vals _ _ 1 _ rfl _ _ x e).trans ((pay3_at _ x 1 e).trans (stage_V2 c gv x 1 e))
theorem key_2_2 (x : Fin 1024) (e : Fin 128) : run₁.sl.v369 c gk gv (ix3 0 x e) = at4 c gk 2 2 x e :=
  (read_keys _ _ _ 2 _ rfl _ _ _ x e).trans ((pay3_at _ x 2 e).trans (stage_K2 c gk x 2 e))
theorem val_2_2 (x : Fin 1024) (e : Fin 128) : run₁.sl.v376 c gk gv (ix3 0 x e) = at4 c gv 2 2 x e :=
  (read_vals _ _ 2 _ rfl _ _ x e).trans ((pay3_at _ x 2 e).trans (stage_V2 c gv x 2 e))
theorem key_2_3 (x : Fin 1024) (e : Fin 128) : run₁.sl.v382 c gk gv (ix3 0 x e) = at4 c gk 2 3 x e :=
  (read_keys _ _ _ 3 _ rfl _ _ _ x e).trans ((pay3_at _ x 3 e).trans (stage_K2 c gk x 3 e))
theorem val_2_3 (x : Fin 1024) (e : Fin 128) : run₁.sl.v389 c gk gv (ix3 0 x e) = at4 c gv 2 3 x e :=
  (read_vals _ _ 3 _ rfl _ _ x e).trans ((pay3_at _ x 3 e).trans (stage_V2 c gv x 3 e))
theorem key_2_4 (x : Fin 1024) (e : Fin 128) : run₁.sl.v395 c gk gv (ix3 0 x e) = at4 c gk 2 4 x e :=
  (read_keys _ _ _ 4 _ rfl _ _ _ x e).trans ((pay3_at _ x 4 e).trans (stage_K2 c gk x 4 e))
theorem val_2_4 (x : Fin 1024) (e : Fin 128) : run₁.sl.v402 c gk gv (ix3 0 x e) = at4 c gv 2 4 x e :=
  (read_vals _ _ 4 _ rfl _ _ x e).trans ((pay3_at _ x 4 e).trans (stage_V2 c gv x 4 e))
theorem key_2_5 (x : Fin 1024) (e : Fin 128) : run₁.sl.v408 c gk gv (ix3 0 x e) = at4 c gk 2 5 x e :=
  (read_keys _ _ _ 5 _ rfl _ _ _ x e).trans ((pay3_at _ x 5 e).trans (stage_K2 c gk x 5 e))
theorem val_2_5 (x : Fin 1024) (e : Fin 128) : run₁.sl.v415 c gk gv (ix3 0 x e) = at4 c gv 2 5 x e :=
  (read_vals _ _ 5 _ rfl _ _ x e).trans ((pay3_at _ x 5 e).trans (stage_V2 c gv x 5 e))
theorem key_2_6 (x : Fin 1024) (e : Fin 128) : run₁.sl.v421 c gk gv (ix3 0 x e) = at4 c gk 2 6 x e :=
  (read_keys _ _ _ 6 _ rfl _ _ _ x e).trans ((pay3_at _ x 6 e).trans (stage_K2 c gk x 6 e))
theorem val_2_6 (x : Fin 1024) (e : Fin 128) : run₁.sl.v428 c gk gv (ix3 0 x e) = at4 c gv 2 6 x e :=
  (read_vals _ _ 6 _ rfl _ _ x e).trans ((pay3_at _ x 6 e).trans (stage_V2 c gv x 6 e))
theorem key_2_7 (x : Fin 1024) (e : Fin 128) : run₁.sl.v434 c gk gv (ix3 0 x e) = at4 c gk 2 7 x e :=
  (read_keys _ _ _ 7 _ rfl _ _ _ x e).trans ((pay3_at _ x 7 e).trans (stage_K2 c gk x 7 e))
theorem val_2_7 (x : Fin 1024) (e : Fin 128) : run₁.sl.v441 c gk gv (ix3 0 x e) = at4 c gv 2 7 x e :=
  (read_vals _ _ 7 _ rfl _ _ x e).trans ((pay3_at _ x 7 e).trans (stage_V2 c gv x 7 e))

/-! ### The heads of chunk 3 -/

theorem key_3_0 (x : Fin 1024) (e : Fin 128) : run₁.sl.v473 c gk gv (ix3 0 x e) = at4 c gk 3 0 x e :=
  (read_keys _ _ _ 0 _ rfl _ _ _ x e).trans ((pay3_at _ x 0 e).trans (stage_K3 c gk x 0 e))
theorem val_3_0 (x : Fin 1024) (e : Fin 128) : run₁.sl.v480 c gk gv (ix3 0 x e) = at4 c gv 3 0 x e :=
  (read_vals _ _ 0 _ rfl _ _ x e).trans ((pay3_at _ x 0 e).trans (stage_V3 c gv x 0 e))
theorem key_3_1 (x : Fin 1024) (e : Fin 128) : run₁.sl.v486 c gk gv (ix3 0 x e) = at4 c gk 3 1 x e :=
  (read_keys _ _ _ 1 _ rfl _ _ _ x e).trans ((pay3_at _ x 1 e).trans (stage_K3 c gk x 1 e))
theorem val_3_1 (x : Fin 1024) (e : Fin 128) : run₁.sl.v493 c gk gv (ix3 0 x e) = at4 c gv 3 1 x e :=
  (read_vals _ _ 1 _ rfl _ _ x e).trans ((pay3_at _ x 1 e).trans (stage_V3 c gv x 1 e))
theorem key_3_2 (x : Fin 1024) (e : Fin 128) : run₁.sl.v499 c gk gv (ix3 0 x e) = at4 c gk 3 2 x e :=
  (read_keys _ _ _ 2 _ rfl _ _ _ x e).trans ((pay3_at _ x 2 e).trans (stage_K3 c gk x 2 e))
theorem val_3_2 (x : Fin 1024) (e : Fin 128) : run₁.sl.v506 c gk gv (ix3 0 x e) = at4 c gv 3 2 x e :=
  (read_vals _ _ 2 _ rfl _ _ x e).trans ((pay3_at _ x 2 e).trans (stage_V3 c gv x 2 e))
theorem key_3_3 (x : Fin 1024) (e : Fin 128) : run₁.sl.v512 c gk gv (ix3 0 x e) = at4 c gk 3 3 x e :=
  (read_keys _ _ _ 3 _ rfl _ _ _ x e).trans ((pay3_at _ x 3 e).trans (stage_K3 c gk x 3 e))
theorem val_3_3 (x : Fin 1024) (e : Fin 128) : run₁.sl.v519 c gk gv (ix3 0 x e) = at4 c gv 3 3 x e :=
  (read_vals _ _ 3 _ rfl _ _ x e).trans ((pay3_at _ x 3 e).trans (stage_V3 c gv x 3 e))
theorem key_3_4 (x : Fin 1024) (e : Fin 128) : run₁.sl.v525 c gk gv (ix3 0 x e) = at4 c gk 3 4 x e :=
  (read_keys _ _ _ 4 _ rfl _ _ _ x e).trans ((pay3_at _ x 4 e).trans (stage_K3 c gk x 4 e))
theorem val_3_4 (x : Fin 1024) (e : Fin 128) : run₁.sl.v532 c gk gv (ix3 0 x e) = at4 c gv 3 4 x e :=
  (read_vals _ _ 4 _ rfl _ _ x e).trans ((pay3_at _ x 4 e).trans (stage_V3 c gv x 4 e))
theorem key_3_5 (x : Fin 1024) (e : Fin 128) : run₁.sl.v538 c gk gv (ix3 0 x e) = at4 c gk 3 5 x e :=
  (read_keys _ _ _ 5 _ rfl _ _ _ x e).trans ((pay3_at _ x 5 e).trans (stage_K3 c gk x 5 e))
theorem val_3_5 (x : Fin 1024) (e : Fin 128) : run₁.sl.v545 c gk gv (ix3 0 x e) = at4 c gv 3 5 x e :=
  (read_vals _ _ 5 _ rfl _ _ x e).trans ((pay3_at _ x 5 e).trans (stage_V3 c gv x 5 e))
theorem key_3_6 (x : Fin 1024) (e : Fin 128) : run₁.sl.v551 c gk gv (ix3 0 x e) = at4 c gk 3 6 x e :=
  (read_keys _ _ _ 6 _ rfl _ _ _ x e).trans ((pay3_at _ x 6 e).trans (stage_K3 c gk x 6 e))
theorem val_3_6 (x : Fin 1024) (e : Fin 128) : run₁.sl.v558 c gk gv (ix3 0 x e) = at4 c gv 3 6 x e :=
  (read_vals _ _ 6 _ rfl _ _ x e).trans ((pay3_at _ x 6 e).trans (stage_V3 c gv x 6 e))
theorem key_3_7 (x : Fin 1024) (e : Fin 128) : run₁.sl.v564 c gk gv (ix3 0 x e) = at4 c gk 3 7 x e :=
  (read_keys _ _ _ 7 _ rfl _ _ _ x e).trans ((pay3_at _ x 7 e).trans (stage_K3 c gk x 7 e))
theorem val_3_7 (x : Fin 1024) (e : Fin 128) : run₁.sl.v571 c gk gv (ix3 0 x e) = at4 c gv 3 7 x e :=
  (read_vals _ _ 7 _ rfl _ _ x e).trans ((pay3_at _ x 7 e).trans (stage_V3 c gv x 7 e))

end Cert.KernelIdeal.Hand

end
-- ==== Proof.Heads.lean ====
/-
  What a device computes of its eight heads: the sums of weights and of weighted values over the four chunks, their
  quotients laid side by side, and the product with the device's rows of the output projection.
-/
module

public import proofs.«01_k».proof.Proof.Blocks

@[expose] public section

set_option maxRecDepth 16384

noncomputable section

namespace Cert.KernelIdeal.Hand

open Cert.KernelIdeal Cert.KernelIdeal.Gen

open Idealize.ShloMosaic
open Idealize.ShloMosaic.TcCoe

variable (c : Dev nD) (gx : Buf (Elt Ideal) ((c : Thread nD τ).loc cc0_stg0_0)) (gq : Buf (Elt Ideal) ((c : Thread nD τ).loc cc0_stg1_0))
    (go : Buf (Elt Ideal) ((c : Thread nD τ).loc cc0_stg2_0)) (gk : Buf (Elt Ideal) ((c : Thread nD τ).loc main_arg2)) (gv : Buf (Elt Ideal) ((c : Thread nD τ).loc main_arg3))

/-- The weight query `i` gives key `x` of chunk `ch` in head `h`. -/
def wt (q : S256x1024.Idx → EReal) (gk : S1x4096x32x128.Idx → EReal) (h : Fin 8) (i : Fin 256) (ch : Fin 4) (x : Fin 1024) : EReal :=
  Ideal.exp (∑ e : Fin 128, q (ix2 i ⟨128 * h.val + e.val, by omega⟩) * at4 c gk ch h x e)

/-- A head's sum of weights, chunk after chunk. -/
def den (q : S256x1024.Idx → EReal) (gk : S1x4096x32x128.Idx → EReal) (h : Fin 8) (i : Fin 256) : EReal :=
  ∑ x, wt c q gk h i 0 x + ∑ x, wt c q gk h i 1 x + ∑ x, wt c q gk h i 2 x + ∑ x, wt c q gk h i 3 x

/-- A head's sum of weighted values, chunk after chunk. -/
def num (q : S256x1024.Idx → EReal) (gk gv : S1x4096x32x128.Idx → EReal) (h : Fin 8) (i : Fin 256) (d : Fin 128) : EReal :=
  ∑ x, wt c q gk h i 0 x * at4 c gv 0 h x d + ∑ x, wt c q gk h i 1 x * at4 c gv 1 h x d
    + ∑ x, wt c q gk h i 2 x * at4 c gv 2 h x d + ∑ x, wt c q gk h i 3 x * at4 c gv 3 h x d

theorem den_0 (i : Fin 256) : run₁.sl.r_58 c gx gq gk gv (ix2 i 0) = den c (run₁.sl.r c gx gq) gk 0 i := by
  unfold run₁.sl.r_58 run₁.sl.r_38 run₁.sl.r_17 run₁.sl.r_1
  unfold_payloads
  pointwise []
  simp only [key_0_0, key_1_0, key_2_0, key_3_0]
  simp [den, wt]
theorem num_0 (i : Fin 256) (d : Fin 128) : run₁.sl.r_59 c gx gq gk gv (ix2 i d) = num c (run₁.sl.r c gx gq) gk gv 0 i d := by
  unfold run₁.sl.r_59 run₁.sl.r_39 run₁.sl.r_18 run₁.sl.r_2
  unfold_payloads
  pointwise []
  simp only [key_0_0, key_1_0, key_2_0, key_3_0, val_0_0, val_1_0, val_2_0, val_3_0]
  simp [num, wt]
theorem den_1 (i : Fin 256) : run₁.sl.r_62 c gx gq gk gv (ix2 i 0) = den c (run₁.sl.r c gx gq) gk 1 i := by
  unfold run₁.sl.r_62 run₁.sl.r_60 run₁.sl.r_42 run₁.sl.r_41 run₁.sl.r_20 run₁.sl.r_19 run₁.sl.r_3
  unfold_payloads
  pointwise []
  simp only [key_0_1, key_1_1, key_2_1, key_3_1]
  simp [den, wt]
theorem num_1 (i : Fin 256) (d : Fin 128) : run₁.sl.r_63 c gx gq gk gv (ix2 i d) = num c (run₁.sl.r c gx gq) gk gv 1 i d := by
  unfold run₁.sl.r_63 run₁.sl.r_61 run₁.sl.r_43 run₁.sl.r_40 run₁.sl.r_21 run₁.sl.r_19 run₁.sl.r_4
  unfold_payloads
  pointwise []
  simp only [key_0_1, key_1_1, key_2_1, key_3_1, val_0_1, val_1_1, val_2_1, val_3_1]
  simp [num, wt]
theorem den_2 (i : Fin 256) : run₁.sl.r_64 c gx gq gk gv (ix2 i 0) = den c (run₁.sl.r c gx gq) gk 2 i := by
  unfold run₁.sl.r_64 run₁.sl.r_44 run₁.sl.r_22 run₁.sl.r_5
  unfold_payloads
  pointwise []
  simp only [key_0_2, key_1_2, key_2_2, key_3_2]
  simp [den, wt]
theorem num_2 (i : Fin 256) (d : Fin 128) : run₁.sl.r_65 c gx gq gk gv (ix2 i d) = num c (run₁.sl.r c gx gq) gk gv 2 i d := by
  unfold run₁.sl.r_65 run₁.sl.r_45 run₁.sl.r_23 run₁.sl.r_6
  unfold_payloads
  pointwise []
  simp only [key_0_2, key_1_2, key_2_2, key_3_2, val_0_2, val_1_2, val_2_2, val_3_2]
  simp [num, wt]
theorem den_3 (i : Fin 256) : run₁.sl.r_66 c gx gq gk gv (ix2 i 0) = den c (run₁.sl.r c gx gq) gk 3 i := by
  unfold run₁.sl.r_66 run₁.sl.r_46 run₁.sl.r_24 run₁.sl.r_7
  unfold_payloads
  pointwise []
  simp only [key_0_3, key_1_3, key_2_3, key_3_3]
  simp [den, wt]
theorem num_3 (i : Fin 256) (d : Fin 128) : run₁.sl.r_67 c gx gq gk gv (ix2 i d) = num c (run₁.sl.r c gx gq) gk gv 3 i d := by
  unfold run₁.sl.r_67 run₁.sl.r_47 run₁.sl.r_25 run₁.sl.r_8
  unfold_payloads
  pointwise []
  simp only [key_0_3, key_1_3, key_2_3, key_3_3, val_0_3, val_1_3, val_2_3, val_3_3]
  simp [num, wt]
theorem den_4 (i : Fin 256) : run₁.sl.r_69 c gx gq gk gv (ix2 i 0) = den c (run₁.sl.r c gx gq) gk 4 i := by
  unfold run₁.sl.r_69 run₁.sl.r_68 run₁.sl.r_50 run₁.sl.r_48 run₁.sl.r_49 run₁.sl.r_27 run₁.sl.r_26 run₁.sl.r_9
  unfold_payloads
  pointwise []
  simp only [key_0_4, key_1_4, key_2_4, key_3_4]
  simp [den, wt]
theorem num_4 (i : Fin 256) (d : Fin 128) : run₁.sl.r_70 c gx gq gk gv (ix2 i d) = num c (run₁.sl.r c gx gq) gk gv 4 i d := by
  unfold run₁.sl.r_70 run₁.sl.r_68 run₁.sl.r_51 run₁.sl.r_48 run₁.sl.r_49 run₁.sl.r_28 run₁.sl.r_26 run₁.sl.r_10
  unfold_payloads
  pointwise []
  simp only [key_0_4, key_1_4, key_2_4, key_3_4, val_0_4, val_1_4, val_2_4, val_3_4]
  simp [num, wt]
theorem den_5 (i : Fin 256) : run₁.sl.r_71 c gx gq gk gv (ix2 i 0) = den c (run₁.sl.r c gx gq) gk 5 i := by
  unfold run₁.sl.r_71 run₁.sl.r_52 run₁.sl.r_29 run₁.sl.r_11
  unfold_payloads
  pointwise []
  simp only [key_0_5, key_1_5, key_2_5, key_3_5]
  simp [den, wt]
theorem num_5 (i : Fin 256) (d : Fin 128) : run₁.sl.r_72 c gx gq gk gv (ix2 i d) = num c (run₁.sl.r c gx gq) gk gv 5 i d := by
  unfold run₁.sl.r_72 run₁.sl.r_53 run₁.sl.r_30 run₁.sl.r_12
  unfold_payloads
  pointwise []
  simp only [key_0_5, key_1_5, key_2_5, key_3_5, val_0_5, val_1_5, val_2_5, val_3_5]
  simp [num, wt]
theorem den_6 (i : Fin 256) : run₁.sl.r_73 c gx gq gk gv (ix2 i 0) = den c (run₁.sl.r c gx gq) gk 6 i := by
  unfold run₁.sl.r_73 run₁.sl.r_54 run₁.sl.r_34 run₁.sl.r_31 run₁.sl.r_13
  unfold_payloads
  pointwise []
  simp only [key_0_6, key_1_6, key_2_6, key_3_6]
  simp [den, wt]
theorem num_6 (i : Fin 256) (d : Fin 128) : run₁.sl.r_74 c gx gq gk gv (ix2 i d) = num c (run₁.sl.r c gx gq) gk gv 6 i d := by
  unfold run₁.sl.r_74 run₁.sl.r_55 run₁.sl.r_35 run₁.sl.r_32 run₁.sl.r_33 run₁.sl.r_14
  unfold_payloads
  pointwise []
  simp only [key_0_6, key_1_6, key_2_6, key_3_6, val_0_6, val_1_6, val_2_6, val_3_6]
  simp [num, wt]
theorem den_7 (i : Fin 256) : run₁.sl.r_76 c gx gq gk gv (ix2 i 0) = den c (run₁.sl.r c gx gq) gk 7 i := by
  unfold run₁.sl.r_76 run₁.sl.r_56 run₁.sl.r_75 run₁.sl.r_36 run₁.sl.r_15
  unfold_payloads
  pointwise []
  simp only [key_0_7, key_1_7, key_2_7, key_3_7]
  simp [den, wt]
theorem num_7 (i : Fin 256) (d : Fin 128) : run₁.sl.r_77 c gx gq gk gv (ix2 i d) = num c (run₁.sl.r c gx gq) gk gv 7 i d := by
  unfold run₁.sl.r_77 run₁.sl.r_57 run₁.sl.r_75 run₁.sl.r_37 run₁.sl.r_16
  unfold_payloads
  pointwise []
  simp only [key_0_7, key_1_7, key_2_7, key_3_7, val_0_7, val_1_7, val_2_7, val_3_7]
  simp [num, wt]

/-! ### The heads side by side -/

/-- A head's result. -/
def quot (q : S256x1024.Idx → EReal) (gk gv : S1x4096x32x128.Idx → EReal) (h : Fin 8) (i : Fin 256) (d : Fin 128) : EReal :=
  Ideal.div (num c q gk gv h i d) (den c q gk h i)

/-- The eight heads' results side by side. -/
def sides (q : S256x1024.Idx → EReal) (gk gv : S1x4096x32x128.Idx → EReal) (y : S256x1024.Idx) : EReal :=
  quot c q gk gv ⟨(y 1).val / 128, by have : (y 1).val < 1024 := (y 1).isLt; omega⟩ (y 0) ⟨(y 1).val % 128, by omega⟩

theorem sides_at (q : S256x1024.Idx → EReal) (gk gv : S1x4096x32x128.Idx → EReal) (h : Fin 8) (o : ℕ) (ho : o = 128 * h.val) (inb) (x : S256x128.Idx) :
    sides c q gk gv ((Rect.unit (s := S256x1024) ![0, o] S256x128.size inb).emb x) = quot c q gk gv h (x 0) (x 1) := by
  subst ho
  have hx : (x 1).val < 128 := (x 1).isLt
  have h0 : ((Rect.unit (s := S256x1024) ![0, 128 * h.val] S256x128.size inb).emb x 0).val = (x 0).val := by simp [Rect.emb, Rect.unit]
  have h1 : ((Rect.unit (s := S256x1024) ![0, 128 * h.val] S256x128.size inb).emb x 1).val = 128 * h.val + (x 1).val := by simp [Rect.emb, Rect.unit]
  unfold sides
  congr 1
  · exact Fin.ext (by simp only [h1]; omega)
  · exact Fin.ext h0
  · exact Fin.ext (by simp only [h1]; omega)

theorem quot_0 (inb) (x : S256x128.Idx) : k0_pay118 (run₁.sl.r_58 c gx gq gk gv) (run₁.sl.r_59 c gx gq gk gv) x
    = sides c (run₁.sl.r c gx gq) gk gv ((Rect.unit (s := S256x1024) ![0, 0] S256x128.size inb).emb x) := by
  rw [sides_at c _ gk gv 0 0 rfl]
  unfold_payloads
  obtain ⟨i, d, rfl⟩ : ∃ (i : Fin 256) (d : Fin 128), x = ix2 i d := ⟨x 0, x 1, by funext a; fin_cases a <;> rfl⟩
  pointwise []
  rw [num_0, den_0]
  rfl
theorem quot_1 (inb) (x : S256x128.Idx) : k0_pay119 (run₁.sl.r_62 c gx gq gk gv) (run₁.sl.r_63 c gx gq gk gv) x
    = sides c (run₁.sl.r c gx gq) gk gv ((Rect.unit (s := S256x1024) ![0, 128] S256x128.size inb).emb x) := by
  rw [sides_at c _ gk gv 1 128 rfl]
  unfold_payloads
  obtain ⟨i, d, rfl⟩ : ∃ (i : Fin 256) (d : Fin 128), x = ix2 i d := ⟨x 0, x 1, by funext a; fin_cases a <;> rfl⟩
  pointwise []
  rw [num_1, den_1]
  rfl
theorem quot_2 (inb) (x : S256x128.Idx) : k0_pay120 (run₁.sl.r_64 c gx gq gk gv) (run₁.sl.r_65 c gx gq gk gv) x
    = sides c (run₁.sl.r c gx gq) gk gv ((Rect.unit (s := S256x1024) ![0, 256] S256x128.size inb).emb x) := by
  rw [sides_at c _ gk gv 2 256 rfl]
  unfold_payloads
  obtain ⟨i, d, rfl⟩ : ∃ (i : Fin 256) (d : Fin 128), x = ix2 i d := ⟨x 0, x 1, by funext a; fin_cases a <;> rfl⟩
  pointwise []
  rw [num_2, den_2]
  rfl
theorem quot_3 (inb) (x : S256x128.Idx) : k0_pay121 (run₁.sl.r_66 c gx gq gk gv) (run₁.sl.r_67 c gx gq gk gv) x
    = sides c (run₁.sl.r c gx gq) gk gv ((Rect.unit (s := S256x1024) ![0, 384] S256x128.size inb).emb x) := by
  rw [sides_at c _ gk gv 3 384 rfl]
  unfold_payloads
  obtain ⟨i, d, rfl⟩ : ∃ (i : Fin 256) (d : Fin 128), x = ix2 i d := ⟨x 0, x 1, by funext a; fin_cases a <;> rfl⟩
  pointwise []
  rw [num_3, den_3]
  rfl
theorem quot_4 (inb) (x : S256x128.Idx) : k0_pay123 (run₁.sl.r_78 c gx gq gk gv) x
    = sides c (run₁.sl.r c gx gq) gk gv ((Rect.unit (s := S256x1024) ![0, 512] S256x128.size inb).emb x) := by
  rw [sides_at c _ gk gv 4 512 rfl]
  unfold run₁.sl.r_78
  unfold_payloads
  obtain ⟨i, d, rfl⟩ : ∃ (i : Fin 256) (d : Fin 128), x = ix2 i d := ⟨x 0, x 1, by funext a; fin_cases a <;> rfl⟩
  pointwise []
  rw [num_4, den_4]
  rfl
theorem quot_5 (inb) (x : S256x128.Idx) : k0_pay124 (run₁.sl.r_71 c gx gq gk gv) (run₁.sl.r_72 c gx gq gk gv) x
    = sides c (run₁.sl.r c gx gq) gk gv ((Rect.unit (s := S256x1024) ![0, 640] S256x128.size inb).emb x) := by
  rw [sides_at c _ gk gv 5 640 rfl]
  unfold_payloads
  obtain ⟨i, d, rfl⟩ : ∃ (i : Fin 256) (d : Fin 128), x = ix2 i d := ⟨x 0, x 1, by funext a; fin_cases a <;> rfl⟩
  pointwise []
  rw [num_5, den_5]
  rfl
theorem quot_6 (inb) (x : S256x128.Idx) : k0_pay125 (run₁.sl.r_73 c gx gq gk gv) (run₁.sl.r_74 c gx gq gk gv) x
    = sides c (run₁.sl.r c gx gq) gk gv ((Rect.unit (s := S256x1024) ![0, 768] S256x128.size inb).emb x) := by
  rw [sides_at c _ gk gv 6 768 rfl]
  unfold_payloads
  obtain ⟨i, d, rfl⟩ : ∃ (i : Fin 256) (d : Fin 128), x = ix2 i d := ⟨x 0, x 1, by funext a; fin_cases a <;> rfl⟩
  pointwise []
  rw [num_6, den_6]
  rfl
theorem quot_7 (inb) (x : S256x128.Idx) : k0_pay126 (run₁.sl.r_76 c gx gq gk gv) (run₁.sl.r_77 c gx gq gk gv) x
    = sides c (run₁.sl.r c gx gq) gk gv ((Rect.unit (s := S256x1024) ![0, 896] S256x128.size inb).emb x) := by
  rw [sides_at c _ gk gv 7 896 rfl]
  unfold_payloads
  obtain ⟨i, d, rfl⟩ : ∃ (i : Fin 256) (d : Fin 128), x = ix2 i d := ⟨x 0, x 1, by funext a; fin_cases a <;> rfl⟩
  pointwise []
  rw [num_7, den_7]
  rfl

theorem mem_side (y : S256x1024.Idx) (o : ℕ) (inb) (h1 : o ≤ (y 1).val) (h2 : (y 1).val < o + 128) :
    y ∈ (Rect.unit (s := S256x1024) ![0, o] S256x128.size inb).set := by
  refine (Rect.unit (s := S256x1024) ![0, o] S256x128.size inb).mem_set.mpr fun a => ?_
  match a with
  | 0 => exact ⟨(y 0).val, (y 0).isLt, by simp [Rect.unit]⟩
  | 1 => exact ⟨(y 1).val - o, show (y 1).val - o < 128 by omega, by simp [Rect.unit]; omega⟩

/-- The eight stores of the heads' results are blocks of `sides`. -/
theorem heads_pieces : View.PiecesOf (Val := Elt Ideal) (sides c (run₁.sl.r c gx gq) gk gv) (run₁.sl.Ha_8 c gx gq gk gv) := by
  unfold run₁.sl.Ha_8 run₁.sl.Ha_4
  exact ⟨fun x => quot_7 c gx gq gk gv inb_S256x1024_S256x128_0_896 x, fun x => quot_6 c gx gq gk gv inb_S256x1024_S256x128_0_768 x, fun x => quot_5 c gx gq gk gv inb_S256x1024_S256x128_0_640 x, fun x => quot_4 c gx gq gk gv inb_S256x1024_S256x128_0_512 x,
    fun x => quot_3 c gx gq gk gv inb_S256x1024_S256x128_0_384 x, fun x => quot_2 c gx gq gk gv inb_S256x1024_S256x128_0_256 x, fun x => quot_1 c gx gq gk gv inb_S256x1024_S256x128_0_128 x, fun x => quot_0 c gx gq gk gv inb_S256x1024_S256x128_0_0 x, trivial⟩

theorem heads_cover (y : S256x1024.Idx) : ∃ p ∈ run₁.sl.Ha_8 c gx gq gk gv, y ∈ p.1.set := by
  have hy : (y 1).val < 1024 := (y 1).isLt
  unfold run₁.sl.Ha_8 run₁.sl.Ha_4
  rcases (by omega : 896 ≤ (y 1).val ∨ (768 ≤ (y 1).val ∧ (y 1).val < 896) ∨ (640 ≤ (y 1).val ∧ (y 1).val < 768) ∨ (512 ≤ (y 1).val ∧ (y 1).val < 640)
    ∨ (384 ≤ (y 1).val ∧ (y 1).val < 512) ∨ (256 ≤ (y 1).val ∧ (y 1).val < 384) ∨ (128 ≤ (y 1).val ∧ (y 1).val < 256) ∨ (y 1).val < 128)
    with h | h | h | h | h | h | h | h
  · exact ⟨_, .head _, mem_side y 896 inb_S256x1024_S256x128_0_896 h (by omega)⟩
  · exact ⟨_, .tail _ (.head _), mem_side y 768 inb_S256x1024_S256x128_0_768 h.1 (by omega)⟩
  · exact ⟨_, .tail _ (.tail _ (.head _)), mem_side y 640 inb_S256x1024_S256x128_0_640 h.1 (by omega)⟩
  · exact ⟨_, .tail _ (.tail _ (.tail _ (.head _))), mem_side y 512 inb_S256x1024_S256x128_0_512 h.1 (by omega)⟩
  · exact ⟨_, .tail _ (.tail _ (.tail _ (.tail _ (.head _)))), mem_side y 384 inb_S256x1024_S256x128_0_384 h.1 (by omega)⟩
  · exact ⟨_, .tail _ (.tail _ (.tail _ (.tail _ (.tail _ (.head _))))), mem_side y 256 inb_S256x1024_S256x128_0_256 h.1 (by omega)⟩
  · exact ⟨_, .tail _ (.tail _ (.tail _ (.tail _ (.tail _ (.tail _ (.head _)))))), mem_side y 128 inb_S256x1024_S256x128_0_128 h.1 (by omega)⟩
  · exact ⟨_, .tail _ (.tail _ (.tail _ (.tail _ (.tail _ (.tail _ (.tail _ (.head _))))))), mem_side y 0 inb_S256x1024_S256x128_0_0 (by omega) (by omega)⟩

/-- What the kernel loads of its heads' results before the output projection. -/
theorem heads_at (y : S256x1024.Idx) : run₁.sl.v627 c gx gq gk gv y = sides c (run₁.sl.r c gx gq) gk gv y := by
  have h : run₁.sl.v627 c gx gq gk gv = fun j => View.canon (run₁.sl.Ha_8 c gx gq gk gv)
      ((Rect.unit (s := S256x1024) ![0, 0] S256x1024.size inb_S256x1024_S256x1024_0_0).toLoadRect.idx j) := View.readCov_eq_canon' _ _ _
  rw [h]
  have hy : (Rect.unit (s := S256x1024) ![0, 0] S256x1024.size inb_S256x1024_S256x1024_0_0).toLoadRect.idx y = y :=
    funext fun a => Fin.ext (by fin_cases a <;> simp [LoadRect.idx, Rect.unit])
  exact (congrArg _ hy).trans (View.canon_apply_of_pieces _ _ (heads_pieces c gx gq gk gv).mem y (heads_cover c gx gq gk gv y))

/-- A device's queries, scaled. -/
theorem query_at (X : S1x256x1024.Idx → EReal) (W : S1024x1024.Idx → EReal) (i : Fin 256) (k : Fin 1024) :
    run₁.sl.r (F := Ideal) c X W (ix2 i k) = (∑ a : Fin 1024, X (ix3 0 i a) * W (ix2 a k)) * Ideal.ofBits FTy.f32 0x3DB504F3#32 := by
  have hx : (xM : Memref sig .tc .vmem S1x256x1024 .f32).view.readAt (Elt Ideal)
      (Rect.unit (s := S1x256x1024) ![0, 0, 0] S1x256x1024.size inb_S1x256x1024_S1x256x1024_0_0_0).toLoadRect X = X :=
    Memref.readAt_unit_zero (Elt Ideal) cc0_stg0_0 (funext fun a => by fin_cases a <;> rfl) _ X
  have hq : (qM : Memref sig .tc .vmem S1024x1024 .f32).view.readAt (Elt Ideal)
      (Rect.unit (s := S1024x1024) ![0, 0] S1024x1024.size inb_S1024x1024_S1024x1024_0_0).toLoadRect W = W :=
    Memref.readAt_unit_zero (Elt Ideal) cc0_stg1_0 (funext fun a => by fin_cases a <;> rfl) _ W
  unfold run₁.sl.r
  rw [hx, hq]
  pointwise [k0_pay2]

/-- A device's part of the result: its heads' results times its rows of the output projection. -/
theorem part_at (W : S1024x1024.Idx → EReal) (i : Fin 256) (j : Fin 1024) :
    part (F := Ideal) c gx gq W gk gv (ix2 i j) = ∑ k : Fin 1024, sides c (run₁.sl.r c gx gq) gk gv (ix2 i k) * W (ix2 k j) := by
  have hw : (oM : Memref sig .tc .vmem S1024x1024 .f32).view.readAt (Elt Ideal)
      (Rect.unit (s := S1024x1024) ![0, 0] S1024x1024.size inb_S1024x1024_S1024x1024_0_0).toLoadRect W = W :=
    Memref.readAt_unit_zero (Elt Ideal) cc0_stg2_0 (funext fun a => by fin_cases a <;> rfl) _ W
  unfold part run₁.sl.r_79
  rw [hw]
  pointwise [k0_pay127]
  simp only [heads_at]

end Cert.KernelIdeal.Hand

end
-- ==== Proof.Reference.lean ====
/-
  The reference's result at an index: its scores, the largest score of a row, the sums of weights and of weighted
  values, and the product with the output projection.
-/
module

public import proofs.«01_k».proof.Proof.Gen.ReferenceIdeal.Run
public import Idealize.ShloMosaic.Lib.Pointwise

@[expose] public section

set_option maxRecDepth 16384

noncomputable section

namespace Cert.ReferenceIdeal.Hand

open Cert.ReferenceIdeal Cert.ReferenceIdeal.Gen

open Idealize.ShloMosaic
open Idealize.ShloMosaic.TcCoe
open Idealize.SL Idealize.SL.Sem

variable (x : FVec Ideal S1x256x1024 .f32) (wq : FVec Ideal S1024x4096 .f32) (k v : FVec Ideal S1x4096x32x128 .f32) (wo : FVec Ideal S4096x1024 .f32)

/-- The scores, as the reference computes them. -/
def scores : FVec Ideal S1x32x256x4096 .f32 :=
  mulf (Host.dotGeneral dot_S1x256x32x128_S1x4096x32x128_S1x32x256x4096_3_3_1_1_02_02 none (shapeCast _ (Host.dotGeneral dot_S1x256x1024_S1024x4096_S1x256x4096_2_0_01_1_n_n none x wq) shapeCasts_S1x256x4096_S1x256x32x128) k) (broadcastInDim S1x32x256x4096 ![] bcast_S_S1x32x256x4096 (constant S_ .f32 0x3DB504F3#32))

/-- A row's largest score. -/
def rowMax (s : FVec Ideal S1x32x256x4096 .f32) : FVec Ideal S1x32x256 .f32 :=
  Host.reduce FloatOps.maximumf s (constant S_ .f32 0xFF800000#32) reducesTo_S1x32x256x4096_S1x32x256_d3 h_S_

/-- The weights: the exponentials of the scores less their row's largest. -/
def weights (s : FVec Ideal S1x32x256x4096 .f32) : FVec Ideal S1x32x256x4096 .f32 :=
  Host.exp (subf s (broadcastInDim S1x32x256x4096 ![0, 1, 2, 3] bcast_S1x32x256x1_S1x32x256x4096_0_1_2_3 (broadcastInDim S1x32x256x1 ![0, 1, 2] bcast_S1x32x256_S1x32x256x1_0_1_2 (rowMax s))))

/-- The heads' results: the weighted values over the sums of weights. -/
def heads (w : FVec Ideal S1x32x256x4096 .f32) : FVec Ideal S1x256x32x128 .f32 :=
  Host.divf (transpose S1x256x32x128 [0, 3, 1, 2] (Host.dotGeneral dot_S1x4096x32x128_S1x32x256x4096_S1x32x128x256_1_3_3_2_02_01 none v w) transposes_S1x32x128x256_S1x256x32x128_0_3_1_2) (broadcastInDim S1x256x32x128 ![0, 1, 2, 3] bcast_S1x256x32x1_S1x256x32x128_0_1_2_3 (transpose S1x256x32x1 [0, 2, 1, 3] (broadcastInDim S1x32x256x1 ![0, 1, 2] bcast_S1x32x256_S1x32x256x1_0_1_2 (Host.reduceAdd w (constant S_ .f32 0x00000000#32) reducesTo_S1x32x256x4096_S1x32x256_d3 h_S_)) transposes_S1x32x256x1_S1x256x32x1_0_2_1_3))

/-- The result. -/
def result : FVec Ideal S256x1024 .f32 :=
  shapeCast _ (Host.dotGeneral dot_S1x256x4096_S4096x1024_S1x256x1024_2_0_01_1_n_n none (shapeCast _ (heads v (weights (scores x wq k))) shapeCasts_S1x256x32x128_S1x256x4096) wo) shapeCasts_S1x256x1024_S256x1024

theorem scores_at (h : Fin 32) (i : Fin 256) (j : Fin 4096) :
    scores x wq k (ix4 0 h i j) = (∑ e : Fin 128, (∑ a : Fin 1024, x (ix3 0 i a) * wq (ix2 a ⟨h.val * 128 + e.val, by omega⟩)) * k (ix4 0 j h e)) * Ideal.ofBits FTy.f32 0x3DB504F3#32 := by
  pointwise [scores]
theorem rowMax_at (s : FVec Ideal S1x32x256x4096 .f32) (h : Fin 32) (i : Fin 256) :
    rowMax s (ix3 0 h i) = Finset.fold max (Ideal.ofBits FTy.f32 0xFF800000#32) (fun j : Fin 4096 => s (ix4 0 h i j)) Finset.univ := by
  pointwise [rowMax]
theorem weights_at (s : FVec Ideal S1x32x256x4096 .f32) (h : Fin 32) (i : Fin 256) (j : Fin 4096) :
    weights s (ix4 0 h i j) = Ideal.exp (s (ix4 0 h i j) - rowMax s (ix3 0 h i)) := by
  pointwise [weights]
theorem heads_at (w : FVec Ideal S1x32x256x4096 .f32) (h : Fin 32) (i : Fin 256) (d : Fin 128) :
    heads v w (ix4 0 i h d) = Ideal.div (∑ j : Fin 4096, v (ix4 0 j h d) * w (ix4 0 h i j)) (∑ j : Fin 4096, w (ix4 0 h i j)) := by
  pointwise [heads]
theorem result_at (i : Fin 256) (j : Fin 1024) :
    result x wq k v wo (ix2 i j) = ∑ n : Fin 4096, heads v (weights (scores x wq k)) (ix4 0 i ⟨n.val / 128, by omega⟩ ⟨n.val % 128, by omega⟩) * wo (ix2 n j) := by
  pointwise [result]

/-- The reference runs and leaves `result`; its arguments end unchanged. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v19) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.ReferenceIdeal.Value.run (F := Ideal) m ρ

end Cert.ReferenceIdeal.Hand

end
-- ==== Proof.Softmax.lean ====
/-
  The mathematics of the two softmaxes: subtracting one finite number from every score of a row multiplies the weights
  by one positive real, which leaves the quotient as it was. The weighted values may be infinite: only the weights are
  known to be reals.
-/
module

public import Idealize.ShloMosaic.PureOps.Ideal
public import Idealize.ShloMosaic.PureOps.Ideal.Laws

@[expose] public section

noncomputable section

namespace Cert.KernelIdeal.Hand

open Idealize.ShloMosaic

theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A nonnegative real factor leaves a sum of extended reals, whatever they are. -/
theorem sum_mul_coe {ι : Type} (s : Finset ι) (f : ι → EReal) (t : ℝ) (ht : 0 ≤ t) : (∑ i ∈ s, f i * (t : EReal)) = (∑ i ∈ s, f i) * (t : EReal) := by
  classical
  induction s using Finset.induction_on with
  | empty => simp
  | insert a s ha ih =>
    rw [Finset.sum_insert ha, Finset.sum_insert ha, ih]
    exact (EReal.right_distrib_of_nonneg_of_ne_top (by exact_mod_cast ht) (EReal.coe_ne_top t) _ _).symm

/-- A quotient whose two terms are scaled by one positive real. -/
theorem div_scale (a : EReal) (b t : ℝ) (hb : 0 < b) (ht : 0 < t) : Ideal.div (a * (t : EReal)) ((b * t : ℝ) : EReal) = Ideal.div a (b : EReal) := by
  have hbt : ((b * t : ℝ) : EReal) ≠ 0 := by exact_mod_cast (mul_pos hb ht).ne'
  have hb' : ((b : ℝ) : EReal) ≠ 0 := by exact_mod_cast hb.ne'
  unfold Ideal.div
  rw [if_neg hbt, if_neg hb', ← EReal.coe_inv, ← EReal.coe_inv, mul_assoc, ← EReal.coe_mul]
  congr 2
  field_simp

theorem exp_coe (r : ℝ) : Ideal.exp (r : EReal) = ((Real.exp r : ℝ) : EReal) := rfl

/-- The largest of finitely many reals is one of them. -/
theorem fold_max_coe {n : ℕ} (s : Fin (n + 1) → ℝ) : ∃ M : ℝ, Finset.fold max (⊥ : EReal) (fun j => ((s j : ℝ) : EReal)) Finset.univ = (M : EReal) := by
  obtain ⟨j, -, hj⟩ := Finset.exists_mem_eq_sup (Finset.univ : Finset (Fin (n + 1))) Finset.univ_nonempty (fun j => ((s j : ℝ) : EReal))
  exact ⟨s j, hj⟩

/-- Weighted values over the sum of weights, the weights taken with or without the row's largest score subtracted. -/
theorem softmax_shift {n : ℕ} (s : Fin (n + 1) → ℝ) (v : Fin (n + 1) → EReal) (M : EReal)
    (hM : M = Finset.fold max (⊥ : EReal) (fun j => ((s j : ℝ) : EReal)) Finset.univ) :
    Ideal.div (∑ j, v j * Ideal.exp ((s j : EReal) - M)) (∑ j, Ideal.exp ((s j : EReal) - M))
      = Ideal.div (∑ j, Ideal.exp (s j : EReal) * v j) (∑ j, Ideal.exp (s j : EReal)) := by
  obtain ⟨r, hr⟩ := fold_max_coe s
  have hw : ∀ j, Ideal.exp ((s j : EReal) - M) = ((Real.exp (s j) * Real.exp (-r) : ℝ) : EReal) := fun j => by
    rw [hM, hr, ← EReal.coe_sub, exp_coe, ← Real.exp_add, sub_eq_add_neg]
  have hn : (∑ j, v j * Ideal.exp ((s j : EReal) - M)) = (∑ j, Ideal.exp (s j : EReal) * v j) * ((Real.exp (-r) : ℝ) : EReal) := by
    rw [← sum_mul_coe _ _ _ (Real.exp_pos _).le]
    exact Finset.sum_congr rfl fun j _ => by rw [hw, exp_coe, EReal.coe_mul, ← mul_assoc, mul_comm (v j)]
  have hd : (∑ j, Ideal.exp ((s j : EReal) - M)) = (((∑ j, Real.exp (s j)) * Real.exp (-r) : ℝ) : EReal) := by
    rw [Finset.sum_mul, ← coe_sum]
    exact Finset.sum_congr rfl fun j _ => hw j
  have hk : (∑ j, Ideal.exp (s j : EReal)) = ((∑ j, Real.exp (s j) : ℝ) : EReal) := coe_sum _ _
  rw [hn, hd, hk]
  exact div_scale _ _ _ (Finset.sum_pos (fun j _ => Real.exp_pos _) Finset.univ_nonempty) (Real.exp_pos _)

/-- A sum over `a * b` places, `b` at a time. -/
theorem sum_split {α : Type} [AddCommMonoid α] (a b : ℕ) (f : Fin (a * b) → α) :
    (∑ n, f n) = ∑ p : Fin a, ∑ q : Fin b, f ⟨b * p.val + q.val, by
      have := p.isLt; have := q.isLt
      calc b * p.val + q.val < b * p.val + b := by omega
        _ = b * (p.val + 1) := by ring
        _ ≤ b * a := Nat.mul_le_mul_left _ (by omega)
        _ = a * b := Nat.mul_comm _ _⟩ := by
  rw [← Equiv.sum_comp finProdFinEquiv f, Fintype.sum_prod_type]
  exact Finset.sum_congr rfl fun p _ => Finset.sum_congr rfl fun q _ => congrArg f (Fin.ext (by simp [finProdFinEquiv, Nat.add_comm]))

/-- The word the scores are scaled by is a real. -/
theorem scale_real : ∃ σ : ℝ, Ideal.ofBits FTy.f32 0x3DB504F3#32 = (σ : EReal) := by
  simp only [Ideal.ofBits, Ideal.ieee]
  rw [if_neg (by decide), if_neg (by decide)]
  exact ⟨_, rfl⟩

/-- The word the largest score starts from is the least extended real. -/
theorem negInf_bot : Ideal.ofBits FTy.f32 0xFF800000#32 = (⊥ : EReal) := by
  simp only [Ideal.ofBits, Ideal.ieee]
  rw [if_pos (by decide), if_pos (by decide), if_pos (by decide)]

/-- Scaling the queries or the scores is the same. -/
theorem score_scale {ι : Type} [Fintype ι] (q k : ι → ℝ) (σ : ℝ) : (∑ e, (q e * σ) * k e) = (∑ e, q e * k e) * σ := by
  rw [Finset.sum_mul]
  exact Finset.sum_congr rfl fun e _ => by ring

end Cert.KernelIdeal.Hand

end
-- ==== Proof.Joined.lean ====
/-
  The four devices' parts added up are the reference's result, for scores that are reals.
-/
module

public import proofs.«01_k».proof.Proof.Heads
public import proofs.«01_k».proof.Proof.Reference
public import proofs.«01_k».proof.Proof.Softmax

@[expose] public section

set_option maxRecDepth 16384

noncomputable section

namespace Cert.KernelIdeal.Hand

open Cert.KernelIdeal Cert.KernelIdeal.Gen

open Idealize.ShloMosaic
open Idealize.ShloMosaic.TcCoe

/-- The whole input projection and output projection, of which a device holds a block. -/
abbrev SWq : Shape := ⟨2, ![1024, 4096]⟩
abbrev SWo : Shape := ⟨2, ![4096, 1024]⟩

variable (x : S1x256x1024.Idx → ℝ) (wq : SWq.Idx → ℝ) (k : S1x4096x32x128.Idx → ℝ) (σ : ℝ) (hσ : Ideal.ofBits FTy.f32 0x3DB504F3#32 = (σ : EReal))
  (v : S1x4096x32x128.Idx → EReal) (wo : SWo.Idx → EReal)

/-- The arrays as extended reals. -/
abbrev up {s : Shape} (f : s.Idx → ℝ) : s.Idx → EReal := fun i => (f i : EReal)

/-- The real score of a query and a key in one of the 32 heads. -/
def score (h : Fin 32) (i : Fin 256) (j : Fin 4096) : ℝ :=
  (∑ e : Fin 128, (∑ a : Fin 1024, x (ix3 0 i a) * wq (ix2 a ⟨h.val * 128 + e.val, by omega⟩)) * k (ix4 0 j h e)) * σ

/-- A device's head among the 32. -/
def hd (c : Dev nD) (h : Fin 8) : Fin 32 := ⟨8 * c.val + h.val, by have := c.isLt; simp only [nD] at this; omega⟩

include hσ in
theorem ref_score (h : Fin 32) (i : Fin 256) (j : Fin 4096) :
    Cert.ReferenceIdeal.Hand.scores (up x) (up wq) (up k) (ix4 0 h i j) = (score x wq k σ h i j : EReal) := by
  rw [Cert.ReferenceIdeal.Hand.scores_at, hσ]
  simp only [up, ← EReal.coe_mul, coe_sum]
  rfl

include hσ in
theorem ker_score (c : Dev nD) (W : S1024x1024.Idx → EReal) (hW : ∀ a n : Fin 1024, W (ix2 a n) = (wq (ix2 a ⟨1024 * c.val + n.val, by have := c.isLt; simp only [nD] at this; omega⟩) : EReal))
    (h : Fin 8) (i : Fin 256) (ch : Fin 4) (y : Fin 1024) :
    wt c (run₁.sl.r (F := Ideal) c (up x) W) (up k) h i ch y = Ideal.exp (score x wq k σ (hd c h) i ⟨1024 * ch.val + y.val, by omega⟩ : EReal) := by
  unfold wt at4 score
  rw [← score_scale, ← coe_sum]
  refine congrArg Ideal.exp (Finset.sum_congr rfl fun e _ => ?_)
  rw [query_at, hσ]
  simp only [up, hW, ← EReal.coe_mul, coe_sum]
  have hi : ∀ p q : Fin 4096, p = q → ∀ a : Fin 1024, wq (ix2 a p) = wq (ix2 a q) := fun p q e a => by rw [e]
  refine congrArg (fun r : ℝ => (r : EReal)) ?_
  refine congrArg₂ (· * ·) (congrArg (· * σ) (Finset.sum_congr rfl fun a _ => congrArg (x (ix3 0 i a) * ·) (hi _ _ (Fin.ext ?_) a))) rfl
  simp only [hd]
  ring

include hσ in
/-- A device's head's result is the reference's. -/
theorem quot_eq (c : Dev nD) (W : S1024x1024.Idx → EReal) (hW : ∀ a n : Fin 1024, W (ix2 a n) = (wq (ix2 a ⟨1024 * c.val + n.val, by have := c.isLt; simp only [nD] at this; omega⟩) : EReal))
    (h : Fin 8) (i : Fin 256) (d : Fin 128) :
    quot c (run₁.sl.r (F := Ideal) c (up x) W) (up k) v h i d
      = Cert.ReferenceIdeal.Hand.heads v (Cert.ReferenceIdeal.Hand.weights (Cert.ReferenceIdeal.Hand.scores (up x) (up wq) (up k))) (ix4 0 i (hd c h) d) := by
  rw [Cert.ReferenceIdeal.Hand.heads_at]
  simp only [Cert.ReferenceIdeal.Hand.weights_at, ref_score x wq k σ hσ, Cert.ReferenceIdeal.Hand.rowMax_at, negInf_bot]
  refine Eq.trans ?_ (softmax_shift (n := 4095) (score x wq k σ (hd c h) i) (fun j => v (ix4 0 j (hd c h) d)) _ rfl).symm
  unfold quot
  refine congrArg₂ Ideal.div ?_ ?_
  · refine Eq.trans ?_ (sum_split 4 1024 fun j => Ideal.exp (score x wq k σ (hd c h) i j : EReal) * v (ix4 0 j (hd c h) d)).symm
    rw [Fin.sum_univ_four]
    unfold num
    simp only [ker_score x wq k σ hσ c W hW]
    rfl
  · refine Eq.trans ?_ (sum_split 4 1024 fun j => Ideal.exp (score x wq k σ (hd c h) i j : EReal)).symm
    rw [Fin.sum_univ_four]
    unfold den
    simp only [ker_score x wq k σ hσ c W hW]

include hσ in
/-- The four devices' parts add up to the reference's result. -/
theorem parts_sum (W : Dev nD → S1024x1024.Idx → EReal) (hW : ∀ c, ∀ a n : Fin 1024, W c (ix2 a n) = (wq (ix2 a ⟨1024 * c.val + n.val, by have := c.isLt; simp only [nD] at this; omega⟩) : EReal))
    (U : Dev nD → S1024x1024.Idx → EReal) (hU : ∀ c, ∀ n j : Fin 1024, U c (ix2 n j) = wo (ix2 ⟨1024 * c.val + n.val, by have := c.isLt; simp only [nD] at this; omega⟩ j))
    (i : Fin 256) (j : Fin 1024) :
    ∑ c : Fin 4, part (F := Ideal) (c : Dev nD) (up x) (W c) (U c) (up k) v (ix2 i j)
      = Cert.ReferenceIdeal.Hand.result (up x) (up wq) (up k) v wo (ix2 i j) := by
  rw [Cert.ReferenceIdeal.Hand.result_at]
  refine Eq.trans ?_ (sum_split 4 1024 fun n : Fin 4096 => Cert.ReferenceIdeal.Hand.heads v (Cert.ReferenceIdeal.Hand.weights (Cert.ReferenceIdeal.Hand.scores (up x) (up wq) (up k)))
    (ix4 0 i ⟨n.val / 128, by omega⟩ ⟨n.val % 128, by omega⟩) * wo (ix2 n j)).symm
  refine Finset.sum_congr rfl fun c _ => (part_at c _ _ _ _ (U c) i j).trans (Finset.sum_congr rfl fun n _ => ?_)
  rw [hU]
  refine congrArg (· * _) ?_
  refine (show sides c (run₁.sl.r (F := Ideal) c (up x) (W c)) (up k) v (ix2 i n)
    = quot c (run₁.sl.r (F := Ideal) c (up x) (W c)) (up k) v ⟨n.val / 128, by omega⟩ i ⟨n.val % 128, by omega⟩ from rfl).trans ?_
  rw [quot_eq x wq k σ hσ v c (W c) (hW c)]
  refine congrArg _ ?_
  have e1 : hd c ⟨n.val / 128, by omega⟩ = ⟨(1024 * c.val + n.val) / 128, by omega⟩ := Fin.ext (by simp only [hd]; omega)
  have e2 : (⟨n.val % 128, by omega⟩ : Fin 128) = ⟨(1024 * c.val + n.val) % 128, by omega⟩ := Fin.ext (by simp only; omega)
  exact congrArg₂ (fun p q => ix4 0 i p q) e1 e2

end Cert.KernelIdeal.Hand

end
-- ==== Proof.Value.lean ====
/-
  The result the kernel leaves, on every device, against the reference's; and what the precondition gives.
-/
module

public import proofs.«01_k».proof.Proof.Joined
public import proofs.«01_k».proof.Proof.Frames
public import proofs.«01_k».proof.Pre_finite_scores_KernelIdeal
public import proofs.«01_k».proof.Pre_finite_scores_ReferenceIdeal
public import Idealize.ShloMosaic.Lib.Pipeline.ValueKit.Geometry
public import Idealize.ShloMosaic.Lib.ReduceAll
public import Idealize.ShloMosaic.Lib.Layout

@[expose] public section

set_option maxRecDepth 16384

noncomputable section

namespace Cert.KernelIdeal.Hand

open Cert.KernelIdeal Cert.KernelIdeal.Gen

open Idealize.ShloMosaic
open Idealize.ShloMosaic.TcCoe
open Idealize.SL Idealize.SL.Sem

/-! ## The staged blocks and the array written back, whole -/

section Whole

variable (m : (ℓ : Loc nD τ sig) → Buf (Elt Ideal) ℓ) (ρ : Dev nD → PrngReg) (c : Dev nD)

theorem gx_eq : gx m c = m ((c : Thread nD τ).loc main_arg0) := by
  funext i
  refine congrArg (m ((c : Thread nD τ).loc main_arg0)) (funext fun a => Fin.ext ?_)
  exact Pipeline.Window.rect_emb_val_of_index_zero win0_0 (0 : Fin 1) a rfl i
theorem gq_eq : gq m c = m ((c : Thread nD τ).loc main_arg1) := by
  funext i
  refine congrArg (m ((c : Thread nD τ).loc main_arg1)) (funext fun a => Fin.ext ?_)
  exact Pipeline.Window.rect_emb_val_of_index_zero win0_1 (0 : Fin 1) a rfl i
theorem go_eq : go m c = m ((c : Thread nD τ).loc main_arg4) := by
  funext i
  refine congrArg (m ((c : Thread nD τ).loc main_arg4)) (funext fun a => Fin.ext ?_)
  exact Pipeline.Window.rect_emb_val_of_index_zero win0_2 (0 : Fin 1) a rfl i

theorem final_out : (dats m ρ 0 c).arrAt 3 cfg0.N = outAt m c :=
  (dats m ρ 0 c).arrAt_eq_of_after_last (3 : Fin 4) t0_0 (by decide +kernel) (outAt m c) (fun j => rfl)

theorem outOf_at (p X Y : S256x1024.Idx → EReal) (y : S256x1024.Idx) : outOf (F := Ideal) p X Y y = p y + X y + Y y := rfl
theorem plus_at (p X : S256x1024.Idx → EReal) (y : S256x1024.Idx) : plus (F := Ideal) p X y = p y + X y := rfl
theorem sent_at (p : S256x1024.Idx → EReal) (y : S256x1024.Idx) : sent (F := Ideal) p y = p y := rfl

/-- The two exchanges reach every device. -/
theorem partners_sum (f : Fin 4 → EReal) (c : Dev nD) : f c + f (p1 c) + (f (p2 c) + f (p1 (p2 c))) = ∑ d, f d := by
  rw [Fin.sum_univ_four]
  match c with
  | 0 => show f 0 + f 1 + (f 2 + f 3) = _; ac_rfl
  | 1 => show f 1 + f 0 + (f 3 + f 2) = _; ac_rfl
  | 2 => show f 2 + f 3 + (f 0 + f 1) = _; ac_rfl
  | 3 => show f 3 + f 2 + (f 1 + f 0) = _; ac_rfl

/-- A device's result is the four parts' sum. -/
theorem out_sum (y : S256x1024.Idx) : outAt m c y = ∑ d : Fin 4, partM m (d : Dev nD) y := by
  unfold outAt Xa Xb
  rw [outOf_at, sent_at, sent_at, plus_at]
  unfold Xa
  rw [sent_at]
  exact partners_sum (fun d => partM m (d : Dev nD) y) c

end Whole

/-! ## What the precondition gives -/

theorem pre_facts : Cert.Pre_finite_scores_KernelIdeal.Facts where
  bcast_S_S1x256x1024 := by decide
  reducesTo_S1x256x1024_S_d0_1_2 := by decide
  h_S_ := by decide
  bcast_S_S1024x1024 := by decide
  reducesTo_S1024x1024_S_d0_1 := by decide
  bcast_S_S1x4096x32x128 := by decide
  reducesTo_S1x4096x32x128_S_d0_1_2_3 := by decide

theorem pre_facts_ref : Cert.Pre_finite_scores_ReferenceIdeal.Facts := by
  constructor <;> decide

/-- The word the magnitudes are compared with is the greatest extended real. -/
theorem inf_top : Ideal.ofBits FTy.f32 0x7F800000#32 = (⊤ : EReal) := by
  simp only [Ideal.ofBits, Ideal.ieee]
  rw [if_pos (by decide), if_pos (by decide), if_neg (by decide)]

/-- A magnitude below the greatest extended real is a real's. -/
theorem real_of_abs {a : EReal} (h : Ideal.cmp .olt (max a (-a)) (Ideal.ofBits FTy.f32 0x7F800000#32) = 1#1) : ∃ r : ℝ, a = (r : EReal) := by
  rw [inf_top] at h
  have h' : max a (-a) < ⊤ := by
    by_contra hn
    rw [show Ideal.cmp .olt (max a (-a)) ⊤ = 0#1 from by simp only [Ideal.cmp, decide_eq_false hn]; rfl] at h
    exact absurd h (by decide)
  obtain ⟨h1, h2⟩ := max_lt_iff.mp h'
  induction a with
  | bot => simp at h2
  | coe r => exact ⟨r, rfl⟩
  | top => simp at h1

theorem reals_of {s : Shape} (a : s.Idx → EReal) (h : ∀ i, ∃ r : ℝ, a i = (r : EReal)) : ∃ f : s.Idx → ℝ, a = up f :=
  ⟨fun i => (h i).choose, funext fun i => (h i).choose_spec⟩

instance : Subsingleton Cert.Pre_finite_scores_KernelIdeal.S_.Idx := ⟨fun a b => funext fun i => i.elim0⟩

theorem pre_reals [Cert.Pre_finite_scores_KernelIdeal.Facts] (x : S1x256x1024.Idx → EReal) (w : S1024x1024.Idx → EReal) (k v : S1x4096x32x128.Idx → EReal) (o : S1024x1024.Idx → EReal)
    (h : Cert.Pre_finite_scores_KernelIdeal.fn (F := Ideal) x w k v o = fun _ => 1#1) :
    (∀ i, ∃ r : ℝ, x i = (r : EReal)) ∧ (∀ i, ∃ r : ℝ, w i = (r : EReal)) ∧ (∀ i, ∃ r : ℝ, k i = (r : EReal)) := by
  have h0 := congrFun h (fun a => a.elim0)
  obtain ⟨h1, hk⟩ := IntOp.andi_eq_one.1 h0
  obtain ⟨hx, hw⟩ := IntOp.andi_eq_one.1 h1
  exact ⟨fun i => real_of_abs (Host.reduce_andi_all _ _ _ _ _ hx i), fun i => real_of_abs (Host.reduce_andi_all _ _ _ _ _ hw i),
    fun i => real_of_abs (Host.reduce_andi_all _ _ _ _ _ hk i)⟩

/-! ## The claim -/

theorem block_cols (c : Fin 4) (f : SWq.Idx → EReal) (a n : Fin 1024) :
    Layout.block ⟨2, ![1024, 1024]⟩ SWq 1 4 c f (by decide) (ix2 a n) = f (ix2 a ⟨1024 * c.val + n.val, by omega⟩) :=
  congrArg f (funext fun b => Fin.ext (by
    match b with
    | 0 => rfl
    | 1 => show c.val * 1024 + n.val = 1024 * c.val + n.val; omega))
theorem block_rows (c : Fin 4) (f : SWo.Idx → EReal) (n j : Fin 1024) :
    Layout.block ⟨2, ![1024, 1024]⟩ SWo 0 4 c f (by decide) (ix2 n j) = f (ix2 ⟨1024 * c.val + n.val, by omega⟩ j) :=
  congrArg f (funext fun b => Fin.ext (by
    match b with
    | 0 => show c.val * 1024 + n.val = 1024 * c.val + n.val; omega
    | 1 => rfl))

/-- Every device's result is the reference's, from arrays of which the devices hold their parts. -/
theorem out_eq (m : (ℓ : Loc nD τ sig) → Buf (Elt Ideal) ℓ) (X : S1x256x1024.Idx → EReal) (Wq : SWq.Idx → EReal) (K V : S1x4096x32x128.Idx → EReal) (Wo : SWo.Idx → EReal)
    (h0 : ∀ c : Dev nD, m ((c : Thread nD τ).loc main_arg0) = X)
    (h1 : ∀ c : Dev nD, m ((c : Thread nD τ).loc main_arg1) = Layout.block ⟨2, ![1024, 1024]⟩ SWq 1 4 c Wq (by decide))
    (h2 : ∀ c : Dev nD, m ((c : Thread nD τ).loc main_arg2) = K)
    (h3 : ∀ c : Dev nD, m ((c : Thread nD τ).loc main_arg3) = V)
    (h4 : ∀ c : Dev nD, m ((c : Thread nD τ).loc main_arg4) = Layout.block ⟨2, ![1024, 1024]⟩ SWo 0 4 c Wo (by decide))
    (hX : ∀ i, ∃ r : ℝ, X i = (r : EReal)) (hW : ∀ i, ∃ r : ℝ, Wq i = (r : EReal)) (hK : ∀ i, ∃ r : ℝ, K i = (r : EReal)) (c : Dev nD) :
    outAt m c = Cert.ReferenceIdeal.Hand.result X Wq K V Wo := by
  obtain ⟨x, rfl⟩ := reals_of X hX
  obtain ⟨w, rfl⟩ := reals_of Wq hW
  obtain ⟨k, rfl⟩ := reals_of K hK
  obtain ⟨σ, hσ⟩ := scale_real
  funext y
  obtain ⟨i, j, rfl⟩ : ∃ (i : Fin 256) (j : Fin 1024), y = ix2 i j := ⟨y 0, y 1, by funext a; fin_cases a <;> rfl⟩
  rw [out_sum]
  refine Eq.trans (Finset.sum_congr rfl fun d _ => ?_) (parts_sum x w k σ hσ V Wo (fun d => Layout.block ⟨2, ![1024, 1024]⟩ SWq 1 4 d (up w) (by decide))
    (fun d a n => block_cols d (up w) a n) (fun d => Layout.block ⟨2, ![1024, 1024]⟩ SWo 0 4 d Wo (by decide)) (fun d n j => block_rows d Wo n j) i j)
  unfold partM gk gv
  rw [gx_eq, gq_eq, go_eq, h0, h1, h2, h3, h4]
  rfl

theorem algebraic [hP : Cert.Pre_finite_scores_KernelIdeal.Facts] : Cert.algebraic_KernelIdeal_ReferenceIdeal_pre_finite_scores_KernelIdeal := by
  intro m g m' g' hpre hargs
  have hr := fun c : Dev nD => pre_reals _ _ _ _ _ (hpre c)
  refine ⟨_, (θ_run _ _ _).mono (fun r h c => ⟨(result_eq h.1 c).trans ((final_out m g c).trans
    (out_eq m _ _ _ _ _ (fun d => (hargs d).1) (fun d => (hargs d).2.1) (fun d => (hargs d).2.2.1) (fun d => (hargs d).2.2.2.1) (fun d => (hargs d).2.2.2.2) ?_ ?_ ?_ c)),
      args_kept h.1 c⟩) (run_main m g),
    (θ_run _ _ _).mono (fun r h => h 0) (Cert.ReferenceIdeal.Hand.run_result m' g')⟩
  · rw [← (hargs 0).1]; exact (hr 0).1
  · intro i
    have hi : (i 1).val < 4096 := (i 1).isLt
    have e : i = ix2 (i 0) ⟨1024 * ((i 1).val / 1024) + (i 1).val % 1024, by omega⟩ := by
      funext a
      match a with
      | 0 => rfl
      | 1 => exact Fin.ext (Nat.div_add_mod _ _).symm
    obtain ⟨r, hw⟩ := (hr ⟨(i 1).val / 1024, by show _ < 4; omega⟩).2.1 (ix2 (i 0) ⟨(i 1).val % 1024, by omega⟩)
    refine ⟨r, ?_⟩
    rw [(hargs _).2.1] at hw
    rw [e]
    exact (block_cols ⟨(i 1).val / 1024, by omega⟩ _ (i 0) ⟨(i 1).val % 1024, by omega⟩).symm.trans hw
  · rw [← (hargs 0).2.2.1]; exact (hr 0).2.2

end Cert.KernelIdeal.Hand

end
-- ==== Proof.lean ====
/-
  The claims, each from its module: the frames, the frames under the precondition, and the value.
-/
module

public import proofs.«01_k».proof.Defs
public import proofs.«01_k».proof.Proof.Frames
public import proofs.«01_k».proof.Proof.Value
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.KernelIdeal.Hand.pre_facts, Cert.KernelIdeal.Hand.pre_facts_ref,
  Cert.KernelIdeal.Hand.frame_kernel, Cert.KernelIdeal.Hand.frame_kernelIdeal, fun m g _ => Cert.KernelIdeal.Hand.frame_kernelIdeal m g trivial,
  Cert.KernelIdeal.Hand.frame_reference, fun m g _ => Cert.KernelIdeal.Hand.frame_reference m g trivial, trivial,
  Cert.KernelIdeal.Hand.algebraic (hP := Cert.KernelIdeal.Hand.pre_facts)⟩

end Cert.Proof

end
